-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "sixth" .f32 0x3E2AAAAB#32 ((6⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256 : Shape := ⟨1, ![256]⟩
abbrev S256x40x768 : Shape := ⟨3, ![256, 40, 768]⟩
abbrev S256x6x40 : Shape := ⟨3, ![256, 6, 40]⟩
abbrev S40x40x754 : Shape := ⟨3, ![40, 40, 754]⟩
abbrev S40 : Shape := ⟨1, ![40]⟩
abbrev S47155x6 : Shape := ⟨2, ![47155, 6]⟩
abbrev S16532x6 : Shape := ⟨2, ![16532, 6]⟩
abbrev S47155x1 : Shape := ⟨2, ![47155, 1]⟩
abbrev S16532x1 : Shape := ⟨2, ![16532, 1]⟩
abbrev S1 : Shape := ⟨1, ![1]⟩
abbrev S47155x600 : Shape := ⟨2, ![47155, 600]⟩
abbrev S16532x600 : Shape := ⟨2, ![16532, 600]⟩
abbrev S_ : Shape := ⟨0, ![]⟩

class Facts : Prop where
  bcast_S_S256x40x768 : S_.BroadcastsInDim S256x40x768 (![] : Fin 0 → Fin S256x40x768.rank)
  reducesTo_S256x40x768_S_d0_1_2 : S256x40x768.ReducesTo [0, 1, 2] S_
  h_S_ : 0 < S_.numel
  bcast_S_S256x6x40 : S_.BroadcastsInDim S256x6x40 (![] : Fin 0 → Fin S256x6x40.rank)
  reducesTo_S256x6x40_S_d0_1_2 : S256x6x40.ReducesTo [0, 1, 2] S_
  bcast_S_S47155x6 : S_.BroadcastsInDim S47155x6 (![] : Fin 0 → Fin S47155x6.rank)
  reducesTo_S47155x6_S_d0_1 : S47155x6.ReducesTo [0, 1] S_
  bcast_S_S16532x6 : S_.BroadcastsInDim S16532x6 (![] : Fin 0 → Fin S16532x6.rank)
  reducesTo_S16532x6_S_d0_1 : S16532x6.ReducesTo [0, 1] S_

variable [Facts]

def fn_part1 {F : FTy → Type} [FloatOps F] (main_arg10 : FVec F S47155x6 .f32) (main_arg11 : FVec F S16532x6 .f32) (main_v13 : IVec S_ 1) (main_v16 : IVec S256x6x40 1) : IVec S_ 1 :=
  let main_c_5 : IVec S_ 1 := constantI S_ 1 1#1
  let main_v17 : IVec S_ 1 := (fun x v => Host.reduce IntOp.andi x v reducesTo_S256x6x40_S_d0_1_2 h_S_) main_v16 main_c_5
  let main_v18 : IVec S_ 1 := andi main_v13 main_v17
  let main_v19 : FVec F S47155x6 .f32 := Host.absf main_arg10
  let main_cst_6 : FVec F S_ .f32 := constant S_ .f32 0x7F800000#32
  let main_v20 : FVec F S47155x6 .f32 := broadcastInDim S47155x6 ![] bcast_S_S47155x6 main_cst_6
  let main_v21 : IVec S47155x6 1 := cmpf .olt main_v19 main_v20
  let main_c_7 : IVec S_ 1 := constantI S_ 1 1#1
  let main_v22 : IVec S_ 1 := (fun x v => Host.reduce IntOp.andi x v reducesTo_S47155x6_S_d0_1 h_S_) main_v21 main_c_7
  let main_v23 : IVec S_ 1 := andi main_v18 main_v22
  let main_v24 : FVec F S16532x6 .f32 := Host.absf main_arg11
  let main_cst_8 : FVec F S_ .f32 := constant S_ .f32 0x7F800000#32
  let main_v25 : FVec F S16532x6 .f32 := broadcastInDim S16532x6 ![] bcast_S_S16532x6 main_cst_8
  let main_v26 : IVec S16532x6 1 := cmpf .olt main_v24 main_v25
  let main_c_9 : IVec S_ 1 := constantI S_ 1 1#1
  let main_v27 : IVec S_ 1 := (fun x v => Host.reduce IntOp.andi x v reducesTo_S16532x6_S_d0_1 h_S_) main_v26 main_c_9
  let main_v28 : IVec S_ 1 := andi main_v23 main_v27
  main_v28

def fn {F : FTy → Type} [FloatOps F] (main_arg0 : IVec S256 32) (main_arg1 : IVec S256 32) (main_arg2 : FVec F S256x40x768 .f32) (main_arg3 : FVec F S256x6x40 .f32) (main_arg4 : FVec F S256x40x768 .f32) (main_arg5 : FVec F S256x6x40 .f32) (main_arg6 : FVec F S40x40x754 .f32) (main_arg7 : FVec F S40 .f32) (main_arg8 : FVec F S40x40x754 .f32) (main_arg9 : FVec F S40 .f32) (main_arg10 : FVec F S47155x6 .f32) (main_arg11 : FVec F S16532x6 .f32) (main_arg12 : FVec F S47155x1 .f32) (main_arg13 : FVec F S16532x1 .f32) (main_arg14 : FVec F S1 .f32) (main_arg15 : FVec F S47155x600 .f32) (main_arg16 : FVec F S16532x600 .f32) : IVec S_ 1 :=
  let main_v0 : FVec F S256x40x768 .f32 := Host.absf main_arg2
  let main_cst : FVec F S_ .f32 := constant S_ .f32 0x7F800000#32
  let main_v1 : FVec F S256x40x768 .f32 := broadcastInDim S256x40x768 ![] bcast_S_S256x40x768 main_cst
  let main_v2 : IVec S256x40x768 1 := cmpf .olt main_v0 main_v1
  let main_c : IVec S_ 1 := constantI S_ 1 1#1
  let main_v3 : IVec S_ 1 := (fun x v => Host.reduce IntOp.andi x v reducesTo_S256x40x768_S_d0_1_2 h_S_) main_v2 main_c
  let main_v4 : FVec F S256x6x40 .f32 := Host.absf main_arg3
  let main_cst_0 : FVec F S_ .f32 := constant S_ .f32 0x7F800000#32
  let main_v5 : FVec F S256x6x40 .f32 := broadcastInDim S256x6x40 ![] bcast_S_S256x6x40 main_cst_0
  let main_v6 : IVec S256x6x40 1 := cmpf .olt main_v4 main_v5
  let main_c_1 : IVec S_ 1 := constantI S_ 1 1#1
  let main_v7 : IVec S_ 1 := (fun x v => Host.reduce IntOp.andi x v reducesTo_S256x6x40_S_d0_1_2 h_S_) main_v6 main_c_1
  let main_v8 : IVec S_ 1 := andi main_v3 main_v7
  let main_v9 : FVec F S256x40x768 .f32 := Host.absf main_arg4
  let main_cst_2 : FVec F S_ .f32 := constant S_ .f32 0x7F800000#32
  let main_v10 : FVec F S256x40x768 .f32 := broadcastInDim S256x40x768 ![] bcast_S_S256x40x768 main_cst_2
  let main_v11 : IVec S256x40x768 1 := cmpf .olt main_v9 main_v10
  let main_c_3 : IVec S_ 1 := constantI S_ 1 1#1
  let main_v12 : IVec S_ 1 := (fun x v => Host.reduce IntOp.andi x v reducesTo_S256x40x768_S_d0_1_2 h_S_) main_v11 main_c_3
  let main_v13 : IVec S_ 1 := andi main_v8 main_v12
  let main_v14 : FVec F S256x6x40 .f32 := Host.absf main_arg5
  let main_cst_4 : FVec F S_ .f32 := constant S_ .f32 0x7F800000#32
  let main_v15 : FVec F S256x6x40 .f32 := broadcastInDim S256x6x40 ![] bcast_S_S256x6x40 main_cst_4
  let main_v16 : IVec S256x6x40 1 := cmpf .olt main_v14 main_v15
  fn_part1 (F := F) main_arg10 main_arg11 main_v13 main_v16
-- ==== Kernel.lean ====
abbrev S256 : Shape := ⟨1, ![256]⟩
abbrev S256x40x768 : Shape := ⟨3, ![256, 40, 768]⟩
abbrev S256x6x40 : Shape := ⟨3, ![256, 6, 40]⟩
abbrev S40x40x754 : Shape := ⟨3, ![40, 40, 754]⟩
abbrev S40 : Shape := ⟨1, ![40]⟩
abbrev S47155x6 : Shape := ⟨2, ![47155, 6]⟩
abbrev S16532x6 : Shape := ⟨2, ![16532, 6]⟩
abbrev S47155x1 : Shape := ⟨2, ![47155, 1]⟩
abbrev S16532x1 : Shape := ⟨2, ![16532, 1]⟩
abbrev S1 : Shape := ⟨1, ![1]⟩
abbrev S47155x600 : Shape := ⟨2, ![47155, 600]⟩
abbrev S16532x600 : Shape := ⟨2, ![16532, 600]⟩
abbrev S_ : Shape := ⟨0, ![]⟩
abbrev S256x1 : Shape := ⟨2, ![256, 1]⟩
abbrev S256x6 : Shape := ⟨2, ![256, 6]⟩
abbrev S256x40 : Shape := ⟨2, ![256, 40]⟩
abbrev S40x256 : Shape := ⟨2, ![40, 256]⟩
abbrev S40x754x40 : Shape := ⟨3, ![40, 754, 40]⟩
abbrev S40x768x40 : Shape := ⟨3, ![40, 768, 40]⟩
abbrev S40x768x40x1 : Shape := ⟨4, ![40, 768, 40, 1]⟩
abbrev S40x768x40x15 : Shape := ⟨4, ![40, 768, 40, 15]⟩
abbrev S30720x600 : Shape := ⟨2, ![30720, 600]⟩
abbrev S40x15 : Shape := ⟨2, ![40, 15]⟩
abbrev S600 : Shape := ⟨1, ![600]⟩
abbrev S1x600 : Shape := ⟨2, ![1, 600]⟩
abbrev S1x1 : Shape := ⟨2, ![1, 1]⟩
abbrev S128x8x768 : Shape := ⟨3, ![128, 8, 768]⟩
abbrev S6144x600 : Shape := ⟨2, ![6144, 600]⟩
abbrev S8x128 : Shape := ⟨2, ![8, 128]⟩
abbrev S256x600 : Shape := ⟨2, ![256, 600]⟩
abbrev S128x8 : Shape := ⟨2, ![128, 8]⟩
abbrev S128x8x1 : Shape := ⟨3, ![128, 8, 1]⟩
abbrev S128x6144 : Shape := ⟨2, ![128, 6144]⟩
abbrev S128x600 : Shape := ⟨2, ![128, 600]⟩
abbrev S128 : Shape := ⟨1, ![128]⟩
abbrev S128x1 : Shape := ⟨2, ![128, 1]⟩

abbrev nBuf : Space → Nat
  | .hbm => 194
  | .vmem => 20
  | .smem => 0
  | _ => 0

abbrev hbmTy0_0 (i : Nat) : BufTy := match i % 128 with
  | 0 => ⟨S256, .i32⟩
  | 1 => ⟨S256, .i32⟩
  | 2 => ⟨S256x40x768, .f32⟩
  | 3 => ⟨S256x6x40, .f32⟩
  | 4 => ⟨S256x40x768, .f32⟩
  | 5 => ⟨S256x6x40, .f32⟩
  | 6 => ⟨S40x40x754, .f32⟩
  | 7 => ⟨S40, .f32⟩
  | 8 => ⟨S40x40x754, .f32⟩
  | 9 => ⟨S40, .f32⟩
  | 10 => ⟨S47155x6, .f32⟩
  | 11 => ⟨S16532x6, .f32⟩
  | 12 => ⟨S47155x1, .f32⟩
  | 13 => ⟨S16532x1, .f32⟩
  | 14 => ⟨S1, .f32⟩
  | 15 => ⟨S47155x600, .f32⟩
  | 16 => ⟨S16532x600, .f32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S256x6, .f32⟩
  | 26 => ⟨S256x40, .f32⟩
  | 27 => ⟨S40x256, .f32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S256x6, .f32⟩
  | 37 => ⟨S256x40, .f32⟩
  | 38 => ⟨S40x256, .f32⟩
  | 39 => ⟨S40x40x754, .bf16⟩
  | 40 => ⟨S40x754x40, .bf16⟩
  | 41 => ⟨S_, .i32⟩
  | 42 => ⟨S_, .bf16⟩
  | 43 => ⟨S40x768x40, .bf16⟩
  | 44 => ⟨S_, .i32⟩
  | 45 => ⟨S_, .bf16⟩
  | 46 => ⟨S40x768x40, .bf16⟩
  | 47 => ⟨S_, .i32⟩
  | 48 => ⟨S_, .bf16⟩
  | 49 => ⟨S40x768x40, .bf16⟩
  | 50 => ⟨S_, .i32⟩
  | 51 => ⟨S_, .bf16⟩
  | 52 => ⟨S40x768x40, .bf16⟩
  | 53 => ⟨S_, .i32⟩
  | 54 => ⟨S_, .bf16⟩
  | 55 => ⟨S40x768x40, .bf16⟩
  | 56 => ⟨S_, .i32⟩
  | 57 => ⟨S_, .bf16⟩
  | 58 => ⟨S40x768x40, .bf16⟩
  | 59 => ⟨S_, .i32⟩
  | 60 => ⟨S_, .bf16⟩
  | 61 => ⟨S40x768x40, .bf16⟩
  | 62 => ⟨S_, .i32⟩
  | 63 => ⟨S_, .bf16⟩
  | 64 => ⟨S40x768x40, .bf16⟩
  | 65 => ⟨S_, .i32⟩
  | 66 => ⟨S_, .bf16⟩
  | 67 => ⟨S40x768x40, .bf16⟩
  | 68 => ⟨S_, .i32⟩
  | 69 => ⟨S_, .bf16⟩
  | 70 => ⟨S40x768x40, .bf16⟩
  | 71 => ⟨S_, .i32⟩
  | 72 => ⟨S_, .bf16⟩
  | 73 => ⟨S40x768x40, .bf16⟩
  | 74 => ⟨S_, .i32⟩
  | 75 => ⟨S_, .bf16⟩
  | 76 => ⟨S40x768x40, .bf16⟩
  | 77 => ⟨S_, .i32⟩
  | 78 => ⟨S_, .bf16⟩
  | 79 => ⟨S40x768x40, .bf16⟩
  | 80 => ⟨S_, .i32⟩
  | 81 => ⟨S_, .bf16⟩
  | 82 => ⟨S40x768x40, .bf16⟩
  | 83 => ⟨S_, .i32⟩
  | 84 => ⟨S_, .bf16⟩
  | 85 => ⟨S40x768x40, .bf16⟩
  | 86 => ⟨S40x768x40x1, .bf16⟩
  | 87 => ⟨S40x768x40x1, .bf16⟩
  | 88 => ⟨S40x768x40x1, .bf16⟩
  | 89 => ⟨S40x768x40x1, .bf16⟩
  | 90 => ⟨S40x768x40x1, .bf16⟩
  | 91 => ⟨S40x768x40x1, .bf16⟩
  | 92 => ⟨S40x768x40x1, .bf16⟩
  | 93 => ⟨S40x768x40x1, .bf16⟩
  | 94 => ⟨S40x768x40x1, .bf16⟩
  | 95 => ⟨S40x768x40x1, .bf16⟩
  | 96 => ⟨S40x768x40x1, .bf16⟩
  | 97 => ⟨S40x768x40x1, .bf16⟩
  | 98 => ⟨S40x768x40x1, .bf16⟩
  | 99 => ⟨S40x768x40x1, .bf16⟩
  | 100 => ⟨S40x768x40x1, .bf16⟩
  | 101 => ⟨S40x768x40x15, .bf16⟩
  | 102 => ⟨S30720x600, .bf16⟩
  | 103 => ⟨S40x40x754, .bf16⟩
  | 104 => ⟨S40x754x40, .bf16⟩
  | 105 => ⟨S_, .i32⟩
  | 106 => ⟨S_, .bf16⟩
  | 107 => ⟨S40x768x40, .bf16⟩
  | 108 => ⟨S_, .i32⟩
  | 109 => ⟨S_, .bf16⟩
  | 110 => ⟨S40x768x40, .bf16⟩
  | 111 => ⟨S_, .i32⟩
  | 112 => ⟨S_, .bf16⟩
  | 113 => ⟨S40x768x40, .bf16⟩
  | 114 => ⟨S_, .i32⟩
  | 115 => ⟨S_, .bf16⟩
  | 116 => ⟨S40x768x40, .bf16⟩
  | 117 => ⟨S_, .i32⟩
  | 118 => ⟨S_, .bf16⟩
  | 119 => ⟨S40x768x40, .bf16⟩
  | 120 => ⟨S_, .i32⟩
  | 121 => ⟨S_, .bf16⟩
  | 122 => ⟨S40x768x40, .bf16⟩
  | 123 => ⟨S_, .i32⟩
  | 124 => ⟨S_, .bf16⟩
  | 125 => ⟨S40x768x40, .bf16⟩
  | 126 => ⟨S_, .i32⟩
  | 127 => ⟨S_, .bf16⟩
  | _ => ⟨S256, .i32⟩

abbrev hbmTy0_1 (i : Nat) : BufTy := match i % 128 with
  | 0 => ⟨S40x768x40, .bf16⟩
  | 1 => ⟨S_, .i32⟩
  | 2 => ⟨S_, .bf16⟩
  | 3 => ⟨S40x768x40, .bf16⟩
  | 4 => ⟨S_, .i32⟩
  | 5 => ⟨S_, .bf16⟩
  | 6 => ⟨S40x768x40, .bf16⟩
  | 7 => ⟨S_, .i32⟩
  | 8 => ⟨S_, .bf16⟩
  | 9 => ⟨S40x768x40, .bf16⟩
  | 10 => ⟨S_, .i32⟩
  | 11 => ⟨S_, .bf16⟩
  | 12 => ⟨S40x768x40, .bf16⟩
  | 13 => ⟨S_, .i32⟩
  | 14 => ⟨S_, .bf16⟩
  | 15 => ⟨S40x768x40, .bf16⟩
  | 16 => ⟨S_, .i32⟩
  | 17 => ⟨S_, .bf16⟩
  | 18 => ⟨S40x768x40, .bf16⟩
  | 19 => ⟨S_, .i32⟩
  | 20 => ⟨S_, .bf16⟩
  | 21 => ⟨S40x768x40, .bf16⟩
  | 22 => ⟨S40x768x40x1, .bf16⟩
  | 23 => ⟨S40x768x40x1, .bf16⟩
  | 24 => ⟨S40x768x40x1, .bf16⟩
  | 25 => ⟨S40x768x40x1, .bf16⟩
  | 26 => ⟨S40x768x40x1, .bf16⟩
  | 27 => ⟨S40x768x40x1, .bf16⟩
  | 28 => ⟨S40x768x40x1, .bf16⟩
  | 29 => ⟨S40x768x40x1, .bf16⟩
  | 30 => ⟨S40x768x40x1, .bf16⟩
  | 31 => ⟨S40x768x40x1, .bf16⟩
  | 32 => ⟨S40x768x40x1, .bf16⟩
  | 33 => ⟨S40x768x40x1, .bf16⟩
  | 34 => ⟨S40x768x40x1, .bf16⟩
  | 35 => ⟨S40x768x40x1, .bf16⟩
  | 36 => ⟨S40x768x40x1, .bf16⟩
  | 37 => ⟨S40x768x40x15, .bf16⟩
  | 38 => ⟨S30720x600, .bf16⟩
  | 39 => ⟨S40x15, .f32⟩
  | 40 => ⟨S600, .f32⟩
  | 41 => ⟨S1x600, .f32⟩
  | 42 => ⟨S40x15, .f32⟩
  | 43 => ⟨S600, .f32⟩
  | 44 => ⟨S1x600, .f32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S256x1, .f32⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S256x1, .f32⟩
  | 63 => ⟨S1x1, .f32⟩
  | 64 => ⟨S256x1, .f32⟩
  | 65 => ⟨S256, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | .local _ .vmem, ⟨0, _⟩ => ⟨S128x8x768, .f32⟩
  | .local _ .vmem, ⟨1, _⟩ => ⟨S128x8x768, .f32⟩
  | .local _ .vmem, ⟨2, _⟩ => ⟨S128x8x768, .f32⟩
  | .local _ .vmem, ⟨3, _⟩ => ⟨S128x8x768, .f32⟩
  | .local _ .vmem, ⟨4, _⟩ => ⟨S6144x600, .bf16⟩
  | .local _ .vmem, ⟨5, _⟩ => ⟨S6144x600, .bf16⟩
  | .local _ .vmem, ⟨6, _⟩ => ⟨S6144x600, .bf16⟩
  | .local _ .vmem, ⟨7, _⟩ => ⟨S6144x600, .bf16⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1x600, .f32⟩
  | .local _ .vmem, ⟨13, _⟩ => ⟨S1x600, .f32⟩
  | .local _ .vmem, ⟨14, _⟩ => ⟨S256x1, .f32⟩
  | .local _ .vmem, ⟨15, _⟩ => ⟨S256x1, .f32⟩
  | .local _ .vmem, ⟨16, _⟩ => ⟨S1x1, .f32⟩
  | .local _ .vmem, ⟨17, _⟩ => ⟨S256x1, .f32⟩
  | .local _ .vmem, ⟨18, _⟩ => ⟨S256x600, .f32⟩
  | .local _ .vmem, ⟨19, _⟩ => ⟨S256x600, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_call0_v0 : Ref sig .tc := ⟨.hbm, 42, rfl⟩
abbrev main_v20 : Ref sig .tc := ⟨.hbm, 43, rfl⟩
abbrev main_c_4 : Ref sig .tc := ⟨.hbm, 44, rfl⟩
abbrev main_call1_v0 : Ref sig .tc := ⟨.hbm, 45, rfl⟩
abbrev main_v21 : Ref sig .tc := ⟨.hbm, 46, rfl⟩
abbrev main_c_5 : Ref sig .tc := ⟨.hbm, 47, rfl⟩
abbrev main_call2_v0 : Ref sig .tc := ⟨.hbm, 48, rfl⟩
abbrev main_v22 : Ref sig .tc := ⟨.hbm, 49, rfl⟩
abbrev main_c_6 : Ref sig .tc := ⟨.hbm, 50, rfl⟩
abbrev main_call3_v0 : Ref sig .tc := ⟨.hbm, 51, rfl⟩
abbrev main_v23 : Ref sig .tc := ⟨.hbm, 52, rfl⟩
abbrev main_c_7 : Ref sig .tc := ⟨.hbm, 53, rfl⟩
abbrev main_call4_v0 : Ref sig .tc := ⟨.hbm, 54, rfl⟩
abbrev main_v24 : Ref sig .tc := ⟨.hbm, 55, rfl⟩
abbrev main_c_8 : Ref sig .tc := ⟨.hbm, 56, rfl⟩
abbrev main_call5_v0 : Ref sig .tc := ⟨.hbm, 57, rfl⟩
abbrev main_v25 : Ref sig .tc := ⟨.hbm, 58, rfl⟩
abbrev main_c_9 : Ref sig .tc := ⟨.hbm, 59, rfl⟩
abbrev main_call6_v0 : Ref sig .tc := ⟨.hbm, 60, rfl⟩
abbrev main_v26 : Ref sig .tc := ⟨.hbm, 61, rfl⟩
abbrev main_c_10 : Ref sig .tc := ⟨.hbm, 62, rfl⟩
abbrev main_call7_v0 : Ref sig .tc := ⟨.hbm, 63, rfl⟩
abbrev main_v27 : Ref sig .tc := ⟨.hbm, 64, rfl⟩
abbrev main_c_11 : Ref sig .tc := ⟨.hbm, 65, rfl⟩
abbrev main_call8_v0 : Ref sig .tc := ⟨.hbm, 66, rfl⟩
abbrev main_v28 : Ref sig .tc := ⟨.hbm, 67, rfl⟩
abbrev main_c_12 : Ref sig .tc := ⟨.hbm, 68, rfl⟩
abbrev main_call9_v0 : Ref sig .tc := ⟨.hbm, 69, rfl⟩
abbrev main_v29 : Ref sig .tc := ⟨.hbm, 70, rfl⟩
abbrev main_c_13 : Ref sig .tc := ⟨.hbm, 71, rfl⟩
abbrev main_call10_v0 : Ref sig .tc := ⟨.hbm, 72, rfl⟩
abbrev main_v30 : Ref sig .tc := ⟨.hbm, 73, rfl⟩
abbrev main_c_14 : Ref sig .tc := ⟨.hbm, 74, rfl⟩
abbrev main_call11_v0 : Ref sig .tc := ⟨.hbm, 75, rfl⟩
abbrev main_v31 : Ref sig .tc := ⟨.hbm, 76, rfl⟩
abbrev main_c_15 : Ref sig .tc := ⟨.hbm, 77, rfl⟩
abbrev main_call12_v0 : Ref sig .tc := ⟨.hbm, 78, rfl⟩
abbrev main_v32 : Ref sig .tc := ⟨.hbm, 79, rfl⟩
abbrev main_c_16 : Ref sig .tc := ⟨.hbm, 80, rfl⟩
abbrev main_call13_v0 : Ref sig .tc := ⟨.hbm, 81, rfl⟩
abbrev main_v33 : Ref sig .tc := ⟨.hbm, 82, rfl⟩
abbrev main_c_17 : Ref sig .tc := ⟨.hbm, 83, rfl⟩
abbrev main_call14_v0 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_18 : Ref sig .tc := ⟨.hbm, 105, rfl⟩
abbrev main_call15_v0 : Ref sig .tc := ⟨.hbm, 106, rfl⟩
abbrev main_v54 : Ref sig .tc := ⟨.hbm, 107, rfl⟩
abbrev main_c_19 : Ref sig .tc := ⟨.hbm, 108, rfl⟩
abbrev main_call16_v0 : Ref sig .tc := ⟨.hbm, 109, rfl⟩
abbrev main_v55 : Ref sig .tc := ⟨.hbm, 110, rfl⟩
abbrev main_c_20 : Ref sig .tc := ⟨.hbm, 111, rfl⟩
abbrev main_call17_v0 : Ref sig .tc := ⟨.hbm, 112, rfl⟩
abbrev main_v56 : Ref sig .tc := ⟨.hbm, 113, rfl⟩
abbrev main_c_21 : Ref sig .tc := ⟨.hbm, 114, rfl⟩
abbrev main_call18_v0 : Ref sig .tc := ⟨.hbm, 115, rfl⟩
abbrev main_v57 : Ref sig .tc := ⟨.hbm, 116, rfl⟩
abbrev main_c_22 : Ref sig .tc := ⟨.hbm, 117, rfl⟩
abbrev main_call19_v0 : Ref sig .tc := ⟨.hbm, 118, rfl⟩
abbrev main_v58 : Ref sig .tc := ⟨.hbm, 119, rfl⟩
abbrev main_c_23 : Ref sig .tc := ⟨.hbm, 120, rfl⟩
abbrev main_call20_v0 : Ref sig .tc := ⟨.hbm, 121, rfl⟩
abbrev main_v59 : Ref sig .tc := ⟨.hbm, 122, rfl⟩
abbrev main_c_24 : Ref sig .tc := ⟨.hbm, 123, rfl⟩
abbrev main_call21_v0 : Ref sig .tc := ⟨.hbm, 124, rfl⟩
abbrev main_v60 : Ref sig .tc := ⟨.hbm, 125, rfl⟩
abbrev main_c_25 : Ref sig .tc := ⟨.hbm, 126, rfl⟩
abbrev main_call22_v0 : Ref sig .tc := ⟨.hbm, 127, rfl⟩
abbrev main_v61 : Ref sig .tc := ⟨.hbm, 128, rfl⟩
abbrev main_c_26 : Ref sig .tc := ⟨.hbm, 129, rfl⟩
abbrev main_call23_v0 : Ref sig .tc := ⟨.hbm, 130, rfl⟩
abbrev main_v62 : Ref sig .tc := ⟨.hbm, 131, rfl⟩
abbrev main_c_27 : Ref sig .tc := ⟨.hbm, 132, rfl⟩
abbrev main_call24_v0 : Ref sig .tc := ⟨.hbm, 133, rfl⟩
abbrev main_v63 : Ref sig .tc := ⟨.hbm, 134, rfl⟩
abbrev main_c_28 : Ref sig .tc := ⟨.hbm, 135, rfl⟩
abbrev main_call25_v0 : Ref sig .tc := ⟨.hbm, 136, rfl⟩
abbrev main_v64 : Ref sig .tc := ⟨.hbm, 137, rfl⟩
abbrev main_c_29 : Ref sig .tc := ⟨.hbm, 138, rfl⟩
abbrev main_call26_v0 : Ref sig .tc := ⟨.hbm, 139, rfl⟩
abbrev main_v65 : Ref sig .tc := ⟨.hbm, 140, rfl⟩
abbrev main_c_30 : Ref sig .tc := ⟨.hbm, 141, rfl⟩
abbrev main_call27_v0 : Ref sig .tc := ⟨.hbm, 142, rfl⟩
abbrev main_v66 : Ref sig .tc := ⟨.hbm, 143, rfl⟩
abbrev main_c_31 : Ref sig .tc := ⟨.hbm, 144, rfl⟩
abbrev main_call28_v0 : Ref sig .tc := ⟨.hbm, 145, rfl⟩
abbrev main_v67 : Ref sig .tc := ⟨.hbm, 146, rfl⟩
abbrev main_c_32 : Ref sig .tc := ⟨.hbm, 147, rfl⟩
abbrev main_call29_v0 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_c_33 : Ref sig .tc := ⟨.hbm, 173, rfl⟩
abbrev main_v92 : Ref sig .tc := ⟨.hbm, 174, rfl⟩
abbrev main_v93 : Ref sig .tc := ⟨.hbm, 175, rfl⟩
abbrev main_c_34 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_c_35 : Ref sig .tc := ⟨.hbm, 182, rfl⟩
abbrev main_v99 : Ref sig .tc := ⟨.hbm, 183, rfl⟩
abbrev main_v100 : Ref sig .tc := ⟨.hbm, 184, rfl⟩
abbrev main_c_36 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![5, 2], ![false, false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_7 : BitVec 32 := 0#32
  let v17 : BitVec 1 := Scalar.cmpi .ne v16 c0_i32_7
  v17

def k0_off1 (i : grid0.Coords) : Fin 2 → Nat :=
  let arg1 : BitVec 32 := BitVec.ofNat 32 (i 1).val
  let c128_i32 : BitVec 32 := 128#32
  let v0 : BitVec 32 := Scalar.muli arg1 c128_i32
  let v44 : Index := Scalar.indexCast v0
  let c0_24 : Index := 0#32
  ![v44.toNat, 0]
def k0_cond2 (i : grid0.Coords) : BitVec 1 :=
  let arg0 : BitVec 32 := BitVec.ofNat 32 (i 0).val
  let c0_i32_8 : BitVec 32 := 0#32
  let v18 : BitVec 1 := Scalar.cmpi .sgt arg0 c0_i32_8
  let v19 : BitVec 32 := Scalar.extui v18
  let c0_i32_9 : BitVec 32 := 0#32
  let v20 : BitVec 1 := Scalar.cmpi .ne v19 c0_i32_9
  v20

def k0_off2 (i : grid0.Coords) : Fin 2 → Nat :=
  let arg1 : BitVec 32 := BitVec.ofNat 32 (i 1).val
  let c128_i32 : BitVec 32 := 128#32
  let v0 : BitVec 32 := Scalar.muli arg1 c128_i32
  let v44 : Index := Scalar.indexCast v0
  let c0_24 : Index := 0#32
  ![v44.toNat, 0]
def k0_cond3 (i : grid0.Coords) : BitVec 1 :=
  let arg0 : BitVec 32 := BitVec.ofNat 32 (i 0).val
  let c0_i32_19 : BitVec 32 := 0#32
  let v35 : BitVec 1 := Scalar.cmpi .eq arg0 c0_i32_19
  let v36 : BitVec 32 := Scalar.extui v35
  let c0_i32_20 : BitVec 32 := 0#32
  let v37 : BitVec 1 := Scalar.cmpi .ne v36 c0_i32_20
  v37

def k0_off3 (i : grid0.Coords) : Fin 2 → Nat :=
  let arg1 : BitVec 32 := BitVec.ofNat 32 (i 1).val
  let c128_i32 : BitVec 32 := 128#32
  let v0 : BitVec 32 := Scalar.muli arg1 c128_i32
  let v44 : Index := Scalar.indexCast v0
  let c0_24 : Index := 0#32
  ![v44.toNat, 0]
def k0_cond4 (i : grid0.Coords) : BitVec 1 :=
  let arg0 : BitVec 32 := BitVec.ofNat 32 (i 0).val
  let c0_i32_21 : BitVec 32 := 0#32
  let v38 : BitVec 1 := Scalar.cmpi .sgt arg0 c0_i32_21
  let v39 : BitVec 32 := Scalar.extui v38
  let c0_i32_22 : BitVec 32 := 0#32
  let v40 : BitVec 1 := Scalar.cmpi .ne v39 c0_i32_22
  v40

def k0_off4 (i : grid0.Coords) : Fin 2 → Nat :=
  let arg1 : BitVec 32 := BitVec.ofNat 32 (i 1).val
  let c128_i32 : BitVec 32 := 128#32
  let v0 : BitVec 32 := Scalar.muli arg1 c128_i32
  let v44 : Index := Scalar.indexCast v0
  let c0_24 : Index := 0#32
  ![v44.toNat, 0]
def k0_cond5 (i : grid0.Coords) : BitVec 1 :=
  let arg0 : BitVec 32 := BitVec.ofNat 32 (i 0).val
  let c4_i32 : BitVec 32 := 4#32
  let v41 : BitVec 1 := Scalar.cmpi .eq arg0 c4_i32
  let v42 : BitVec 32 := Scalar.extui v41
  let c0_i32_23 : BitVec 32 := 0#32
  let v43 : BitVec 1 := Scalar.cmpi .ne v42 c0_i32_23
  v43

def k0_off5 (i : grid0.Coords) : Fin 2 → Nat :=
  let arg1 : BitVec 32 := BitVec.ofNat 32 (i 1).val
  let c128_i32 : BitVec 32 := 128#32
  let v0 : BitVec 32 := Scalar.muli arg1 c128_i32
  let v44 : Index := Scalar.indexCast v0
  let c0_24 : Index := 0#32
  ![v44.toNat, 0]
def k0_off6 (i : grid0.Coords) : Fin 2 → Nat :=
  let arg1 : BitVec 32 := BitVec.ofNat 32 (i 1).val
  let c128_i32 : BitVec 32 := 128#32
  let v0 : BitVec 32 := Scalar.muli arg1 c128_i32
  let v63 : Index := Scalar.indexCast v0
  let c0_33 : Index := 0#32
  ![v63.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S6144x600 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x600 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x600 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "sixth" => some ((6⁻¹ : ℝ) : EReal)
  | _ => none
-- ==== ReferenceIdeal.lean ====
abbrev S256 : Shape := ⟨1, ![256]⟩
abbrev S256x40x768 : Shape := ⟨3, ![256, 40, 768]⟩
abbrev S256x6x40 : Shape := ⟨3, ![256, 6, 40]⟩
abbrev S40x40x754 : Shape := ⟨3, ![40, 40, 754]⟩
abbrev S40 : Shape := ⟨1, ![40]⟩
abbrev S47155x6 : Shape := ⟨2, ![47155, 6]⟩
abbrev S16532x6 : Shape := ⟨2, ![16532, 6]⟩
abbrev S47155x1 : Shape := ⟨2, ![47155, 1]⟩
abbrev S16532x1 : Shape := ⟨2, ![16532, 1]⟩
abbrev S1 : Shape := ⟨1, ![1]⟩
abbrev S47155x600 : Shape := ⟨2, ![47155, 600]⟩
abbrev S16532x600 : Shape := ⟨2, ![16532, 600]⟩
abbrev S_ : Shape := ⟨0, ![]⟩
abbrev S256x1 : Shape := ⟨2, ![256, 1]⟩
abbrev S256x6 : Shape := ⟨2, ![256, 6]⟩
abbrev S256x6x1 : Shape := ⟨3, ![256, 6, 1]⟩
abbrev S256x1x40x768 : Shape := ⟨4, ![256, 1, 40, 768]⟩
abbrev S256x6x40x1 : Shape := ⟨4, ![256, 6, 40, 1]⟩
abbrev S256x6x40x768 : Shape := ⟨4, ![256, 6, 40, 768]⟩
abbrev S256x40x754 : Shape := ⟨3, ![256, 40, 754]⟩
abbrev S256x40x1x754 : Shape := ⟨4, ![256, 40, 1, 754]⟩
abbrev S256x40x15x754 : Shape := ⟨4, ![256, 40, 15, 754]⟩
abbrev S40x256x15 : Shape := ⟨3, ![40, 256, 15]⟩
abbrev S256x40x15 : Shape := ⟨3, ![256, 40, 15]⟩
abbrev S1x40x1 : Shape := ⟨3, ![1, 40, 1]⟩
abbrev S256x600 : Shape := ⟨2, ![256, 600]⟩

abbrev nBuf : Space → Nat
  | .hbm => 218
  | .vmem => 0
  | .smem => 0
  | _ => 0

abbrev hbmTy0_0 (i : Nat) : BufTy := match i % 128 with
  | 0 => ⟨S256, .i32⟩
  | 1 => ⟨S256, .i32⟩
  | 2 => ⟨S256x40x768, .f32⟩
  | 3 => ⟨S256x6x40, .f32⟩
  | 4 => ⟨S256x40x768, .f32⟩
  | 5 => ⟨S256x6x40, .f32⟩
  | 6 => ⟨S40x40x754, .f32⟩
  | 7 => ⟨S40, .f32⟩
  | 8 => ⟨S40x40x754, .f32⟩
  | 9 => ⟨S40, .f32⟩
  | 10 => ⟨S47155x6, .f32⟩
  | 11 => ⟨S16532x6, .f32⟩
  | 12 => ⟨S47155x1, .f32⟩
  | 13 => ⟨S16532x1, .f32⟩
  | 14 => ⟨S1, .f32⟩
  | 15 => ⟨S47155x600, .f32⟩
  | 16 => ⟨S16532x600, .f32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S256x6, .f32⟩
  | 26 => ⟨S256x6x1, .f32⟩
  | 27 => ⟨S256x6x40, .f32⟩
  | 28 => ⟨S256x6x40, .f32⟩
  | 29 => ⟨S256x1x40x768, .f32⟩
  | 30 => ⟨S256x6x40x1, .f32⟩
  | 31 => ⟨S256x6x40x768, .f32⟩
  | 32 => ⟨S256x6x40x768, .f32⟩
  | 33 => ⟨S256x6x40x768, .f32⟩
  | 34 => ⟨S_, .f32⟩
  | 35 => ⟨S256x40x768, .f32⟩
  | 36 => ⟨S_, .f32⟩
  | 37 => ⟨S256x40x768, .f32⟩
  | 38 => ⟨S256x40x768, .f32⟩
  | 39 => ⟨S256x40x754, .f32⟩
  | 40 => ⟨S256x40x754, .f32⟩
  | 41 => ⟨S256x40x754, .f32⟩
  | 42 => ⟨S256x40x754, .f32⟩
  | 43 => ⟨S256x40x754, .f32⟩
  | 44 => ⟨S256x40x754, .f32⟩
  | 45 => ⟨S256x40x754, .f32⟩
  | 46 => ⟨S256x40x754, .f32⟩
  | 47 => ⟨S256x40x754, .f32⟩
  | 48 => ⟨S256x40x754, .f32⟩
  | 49 => ⟨S256x40x754, .f32⟩
  | 50 => ⟨S256x40x754, .f32⟩
  | 51 => ⟨S256x40x754, .f32⟩
  | 52 => ⟨S256x40x754, .f32⟩
  | 53 => ⟨S256x40x754, .f32⟩
  | 54 => ⟨S256x40x1x754, .f32⟩
  | 55 => ⟨S256x40x1x754, .f32⟩
  | 56 => ⟨S256x40x1x754, .f32⟩
  | 57 => ⟨S256x40x1x754, .f32⟩
  | 58 => ⟨S256x40x1x754, .f32⟩
  | 59 => ⟨S256x40x1x754, .f32⟩
  | 60 => ⟨S256x40x1x754, .f32⟩
  | 61 => ⟨S256x40x1x754, .f32⟩
  | 62 => ⟨S256x40x1x754, .f32⟩
  | 63 => ⟨S256x40x1x754, .f32⟩
  | 64 => ⟨S256x40x1x754, .f32⟩
  | 65 => ⟨S256x40x1x754, .f32⟩
  | 66 => ⟨S256x40x1x754, .f32⟩
  | 67 => ⟨S256x40x1x754, .f32⟩
  | 68 => ⟨S256x40x1x754, .f32⟩
  | 69 => ⟨S256x40x15x754, .f32⟩
  | 70 => ⟨S40x256x15, .f32⟩
  | 71 => ⟨S256x40x15, .f32⟩
  | 72 => ⟨S1x40x1, .f32⟩
  | 73 => ⟨S256x40x15, .f32⟩
  | 74 => ⟨S256x40x15, .f32⟩
  | 75 => ⟨S_, .f32⟩
  | 76 => ⟨S256x40x15, .f32⟩
  | 77 => ⟨S256x40x15, .f32⟩
  | 78 => ⟨S256x600, .f32⟩
  | 79 => ⟨S_, .f32⟩
  | 80 => ⟨S256x600, .f32⟩
  | 81 => ⟨S256x600, .f32⟩
  | 82 => ⟨S_, .i32⟩
  | 83 => ⟨S256, .i32⟩
  | 84 => ⟨S256, .i1⟩
  | 85 => ⟨S_, .i32⟩
  | 86 => ⟨S256, .i32⟩
  | 87 => ⟨S256, .i32⟩
  | 88 => ⟨S256, .i32⟩
  | 89 => ⟨S256x1, .i32⟩
  | 90 => ⟨S47155x600, .f32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S256x6, .f32⟩
  | 100 => ⟨S256x6x1, .f32⟩
  | 101 => ⟨S256x6x40, .f32⟩
  | 102 => ⟨S256x6x40, .f32⟩
  | 103 => ⟨S256x1x40x768, .f32⟩
  | 104 => ⟨S256x6x40x1, .f32⟩
  | 105 => ⟨S256x6x40x768, .f32⟩
  | 106 => ⟨S256x6x40x768, .f32⟩
  | 107 => ⟨S256x6x40x768, .f32⟩
  | 108 => ⟨S_, .f32⟩
  | 109 => ⟨S256x40x768, .f32⟩
  | 110 => ⟨S_, .f32⟩
  | 111 => ⟨S256x40x768, .f32⟩
  | 112 => ⟨S256x40x768, .f32⟩
  | 113 => ⟨S256x40x754, .f32⟩
  | 114 => ⟨S256x40x754, .f32⟩
  | 115 => ⟨S256x40x754, .f32⟩
  | 116 => ⟨S256x40x754, .f32⟩
  | 117 => ⟨S256x40x754, .f32⟩
  | 118 => ⟨S256x40x754, .f32⟩
  | 119 => ⟨S256x40x754, .f32⟩
  | 120 => ⟨S256x40x754, .f32⟩
  | 121 => ⟨S256x40x754, .f32⟩
  | 122 => ⟨S256x40x754, .f32⟩
  | 123 => ⟨S256x40x754, .f32⟩
  | 124 => ⟨S256x40x754, .f32⟩
  | 125 => ⟨S256x40x754, .f32⟩
  | 126 => ⟨S256x40x754, .f32⟩
  | 127 => ⟨S256x40x754, .f32⟩
  | _ => ⟨S256, .i32⟩

abbrev hbmTy0_1 (i : Nat) : BufTy := match i % 128 with
  | 0 => ⟨S256x40x1x754, .f32⟩
  | 1 => ⟨S256x40x1x754, .f32⟩
  | 2 => ⟨S256x40x1x754, .f32⟩
  | 3 => ⟨S256x40x1x754, .f32⟩
  | 4 => ⟨S256x40x1x754, .f32⟩
  | 5 => ⟨S256x40x1x754, .f32⟩
  | 6 => ⟨S256x40x1x754, .f32⟩
  | 7 => ⟨S256x40x1x754, .f32⟩
  | 8 => ⟨S256x40x1x754, .f32⟩
  | 9 => ⟨S256x40x1x754, .f32⟩
  | 10 => ⟨S256x40x1x754, .f32⟩
  | 11 => ⟨S256x40x1x754, .f32⟩
  | 12 => ⟨S256x40x1x754, .f32⟩
  | 13 => ⟨S256x40x1x754, .f32⟩
  | 14 => ⟨S256x40x1x754, .f32⟩
  | 15 => ⟨S256x40x15x754, .f32⟩
  | 16 => ⟨S40x256x15, .f32⟩
  | 17 => ⟨S256x40x15, .f32⟩
  | 18 => ⟨S1x40x1, .f32⟩
  | 19 => ⟨S256x40x15, .f32⟩
  | 20 => ⟨S256x40x15, .f32⟩
  | 21 => ⟨S_, .f32⟩
  | 22 => ⟨S256x40x15, .f32⟩
  | 23 => ⟨S256x40x15, .f32⟩
  | 24 => ⟨S256x600, .f32⟩
  | 25 => ⟨S_, .f32⟩
  | 26 => ⟨S256x600, .f32⟩
  | 27 => ⟨S256x600, .f32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S16532x600, .f32⟩
  | 37 => ⟨S256, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S256x1, .f32⟩
  | 47 => ⟨S256, .f32⟩
  | 48 => ⟨S256, .f32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S256x1, .f32⟩
  | 58 => ⟨S256, .f32⟩
  | 59 => ⟨S256, .f32⟩
  | 60 => ⟨S_, .f32⟩
  | 61 => ⟨S256, .f32⟩
  | 62 => ⟨S256, .f32⟩
  | 63 => ⟨S_, .i32⟩
  | 64 => ⟨S256, .i32⟩
  | 65 => ⟨S256, .i1⟩
  | 66 => ⟨S_, .i32⟩
  | 67 => ⟨S256, .i32⟩
  | 68 => ⟨S256, .i32⟩
  | 69 => ⟨S256, .i32⟩
  | 70 => ⟨S256x1, .i32⟩
  | 71 => ⟨S256x600, .f32⟩
  | 72 => ⟨S_, .f32⟩
  | 73 => ⟨S_, .f32⟩
  | 74 => ⟨S_, .i32⟩
  | 75 => ⟨S256, .i32⟩
  | 76 => ⟨S256, .i1⟩
  | 77 => ⟨S_, .i32⟩
  | 78 => ⟨S256, .i32⟩
  | 79 => ⟨S256, .i32⟩
  | 80 => ⟨S256, .i32⟩
  | 81 => ⟨S256x1, .i32⟩
  | 82 => ⟨S256x600, .f32⟩
  | 83 => ⟨S_, .f32⟩
  | 84 => ⟨S_, .f32⟩
  | 85 => ⟨S_, .f32⟩
  | 86 => ⟨S_, .f32⟩
  | 87 => ⟨S_, .f32⟩
  | 88 => ⟨S256, .f32⟩
  | 89 => ⟨S256, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_c_2 : Ref sig .tc := ⟨.hbm, 82, rfl⟩
abbrev main_v57 : Ref sig .tc := ⟨.hbm, 83, rfl⟩
abbrev main_v58 : Ref sig .tc := ⟨.hbm, 84, rfl⟩
abbrev main_c_3 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_4 : Ref sig .tc := ⟨.hbm, 91, rfl⟩
abbrev main_v64 : Ref sig .tc := ⟨.hbm, 92, rfl⟩
abbrev main_v65 : Ref sig .tc := ⟨.hbm, 93, rfl⟩
abbrev main_c_5 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_6 : Ref sig .tc := ⟨.hbm, 108, rfl⟩
abbrev main_v79 : Ref sig .tc := ⟨.hbm, 109, rfl⟩
abbrev main_cst_7 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_call2_cst : Ref sig .tc := ⟨.hbm, 149, rfl⟩
abbrev main_call2_v0 : Ref sig .tc := ⟨.hbm, 150, rfl⟩
abbrev main_v118 : Ref sig .tc := ⟨.hbm, 151, rfl⟩
abbrev main_v119 : Ref sig .tc := ⟨.hbm, 152, rfl⟩
abbrev main_call3_cst : Ref sig .tc := ⟨.hbm, 153, rfl⟩
abbrev main_call3_v0 : Ref sig .tc := ⟨.hbm, 154, rfl⟩
abbrev main_v120 : Ref sig .tc := ⟨.hbm, 155, rfl⟩
abbrev main_c_8 : Ref sig .tc := ⟨.hbm, 156, rfl⟩
abbrev main_v121 : Ref sig .tc := ⟨.hbm, 157, rfl⟩
abbrev main_v122 : Ref sig .tc := ⟨.hbm, 158, rfl⟩
abbrev main_c_9 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_c_10 : Ref sig .tc := ⟨.hbm, 166, rfl⟩
abbrev main_v129 : Ref sig .tc := ⟨.hbm, 167, rfl⟩
abbrev main_v130 : Ref sig .tc := ⟨.hbm, 168, rfl⟩
abbrev main_c_11 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c_12 : Ref sig .tc := ⟨.hbm, 177, rfl⟩
abbrev main_v138 : Ref sig .tc := ⟨.hbm, 178, rfl⟩
abbrev main_v139 : Ref sig .tc := ⟨.hbm, 179, rfl⟩
abbrev main_c_13 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_c_14 : Ref sig .tc := ⟨.hbm, 191, rfl⟩
abbrev main_v150 : Ref sig .tc := ⟨.hbm, 192, rfl⟩
abbrev main_v151 : Ref sig .tc := ⟨.hbm, 193, rfl⟩
abbrev main_c_15 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_16 : Ref sig .tc := ⟨.hbm, 200, rfl⟩
abbrev main_v157 : Ref sig .tc := ⟨.hbm, 201, rfl⟩
abbrev main_c_17 : Ref sig .tc := ⟨.hbm, 202, rfl⟩
abbrev main_v158 : Ref sig .tc := ⟨.hbm, 203, rfl⟩
abbrev main_v159 : Ref sig .tc := ⟨.hbm, 204, rfl⟩
abbrev main_c_18 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_19 : Ref sig .tc := ⟨.hbm, 211, rfl⟩
abbrev main_v165 : Ref sig .tc := ⟨.hbm, 212, rfl⟩
abbrev main_v166 : Ref sig .tc := ⟨.hbm, 213, rfl⟩
abbrev main_cst_20 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩

abbrev nD : Nat := 1
abbrev τ : Topo := Topo.v7x

variable {F : FTy → Type} [FloatOps F]
-- ==== Proof.L.Tail.lean ====
/-
  A launch whose proof data say which contents an output array MAY hold at the end, for a program with host lines after the
  region: at every final state there are contents `A`, each such that its window may hold it after the last write-back, and every
  buffer outside the arrays holds what the host lines compute from `A` and the contents at the region's entry.
-/
module

public import Idealize.ShloMosaic.Lib.Pipeline.FrameSuffix

@[expose] public section

noncomputable section

namespace Cert.Tail

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

section Open

variable {cfg : Cfg sig Λ₀} {c : Dev nD} (rd : RDat τ Val Unit ℕ (UR sig nD τ) ℕ cfg c)

/-- The arrays after the last write-back, at contents chosen for all the windows at once. -/
theorem arraysAt_open : (rd.arraysAt cfg.N : sProp 𝕄) ⊢ iprop(∃ A, ⌜∀ w, rd.ArrAt w cfg.N (A w)⌝ ∗ rd.arrays A) := by
  unfold RDat.arraysAt RDat.arrays
  iintro H
  ihave H1 := (BI.bigSep_exists_pi Finset.univ (fun w X => iprop(⌜rd.ArrAt w cfg.N X⌝
    ∗ (cfg.win w).arr.view.loc (c.tc : Thread nD τ) ↦[(cfg.win w).arr.view.set]{rd.share w} X))) $$ H
  icases H1 with ⟨%A, H1⟩
  ihave H2 := (BI.bigSep_pure_sep Finset.univ (fun w => rd.ArrAt w cfg.N (A w))
    (fun w => (cfg.win w).arr.view.loc (c.tc : Thread nD τ) ↦[(cfg.win w).arr.view.set]{rd.share w} A w)) $$ H1
  icases H2 with ⟨%h, H2⟩
  iexists A
  isplitr
  · ipureintro; exact fun w => h w (Finset.mem_univ w)
  · iexact H2

theorem arraysAt_close (A) (hA : ∀ w, rd.ArrAt w cfg.N (A w)) : (rd.arrays A : sProp 𝕄) ⊢ rd.arraysAt cfg.N := by
  unfold RDat.arraysAt RDat.arrays
  refine BI.bigSep_mono fun w _ => ?_
  change ((cfg.win w).arr.view.loc (c.tc : Thread nD τ) ↦[(cfg.win w).arr.view.set]{rd.share w} A w : sProp 𝕄) ⊢
    iprop(∃ X, ⌜rd.ArrAt w cfg.N X⌝ ∗ (cfg.win w).arr.view.loc (c.tc : Thread nD τ) ↦[(cfg.win w).arr.view.set]{rd.share w} X)
  iintro H
  iexists (A w)
  isplitr
  · ipureintro; exact hA w
  · iexact H

end Open

variable (pcs : P → PCfg sig Λ₀ Val) (a : (p : P) → (pcs p).Adm) (p : P)
  (kit₀ : PLaunchFacts₀ (nD := nD) (τ := τ) pcs p) (defs₀ : Defs nD τ sig Val Λ₀) (𝒱₀ : Variants)

/-- The post: window by window an array it may hold, and the other buffers at what the host lines leave. -/
def Post (rd : (c : Dev nD) → RDat τ Val Unit ℕ (UR sig nD τ) ℕ (pin pcs a p) c) (V₀ : Dev nD → Valuation τ sig Val)
    (opss : List (List (HloOp τ sig Val))) (s : MemSt nD τ sig Val) : Prop :=
  ∀ c, (∀ w, (rd c).ArrAt w (pin pcs a p).N (s.mem (((pin pcs a p).win w).arr.view.loc (c.tc : Thread nD τ))))
    ∧ ∃ A, (∀ w, (rd c).ArrAt w (pin pcs a p).N (A w)) ∧ ∀ b ∈ restRefsP sig (pcs p).pre (pin pcs a p).spec, s.mem ((c.tc : Thread nD τ).loc b)
      = StableHlo.after opss.flatten (withArrays (pin pcs a p).spec c (V₀ c) A) (Proc.devRef .tc b)

include kit₀ in
theorem run (rd : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rd c).BodyObligation defs₀ 𝒱₀ () Set.univ)
    (hq : ∀ c w, ((pin pcs a p).spec w).isOut = false → (rd c).q w = shareOf (pin pcs a p).spec w) (howed : ∀ c t, (rd c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rd c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rd c).Φ 0)
    (hout : ∀ c, (rd c).Φ (Fin.last (pin pcs a p).N) ⊢ ΦA (pin pcs a p).spec c) :
    θ_run (Pipeline.defs pcs defs₀) (onTc main) (s₀ m g) (fun r => Post pcs a p rd V₀ opss r.2 ∧ r.2.sem = fun _ => 0) := by
  classical
  exact RDat.θ_run_region_pf_tail_quiescent pcs a (RDat.familyOf pcs a p rd) () (kit₀.cellOf_inj a) p kit₀.win (OwnSemFacts.none (pin pcs a p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := by
      iintro H; imodintro
      isplitl [H]
      · iapply (show (ownU _ : sProp 𝕄) ⊢ BI.own (emb₁ (initOf (cells (pin pcs a) (kit₀.cellOf_inj a)) (launchToks (pin pcs a) (kit₀.cellOf_inj a)))) from .rfl)
        iexact H
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := fun c => by
      rw [RDat.familyOf_self]
      exact (rd c).arrays_split_shared kit₀.sharedIn kit₀.arr_whole (hq c) _ _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => iprop(∃ A, ⌜∀ w, (rd c).ArrAt w (pin pcs a p).N (A w)⌝
      ∗ unscopedRestP (Ix := Unit) (Name := ℕ) (U := UR sig nD τ) (Lvl := ℕ) (pcs p).pre (pin pcs a p).spec c
        (fun b => StableHlo.after opss.flatten (withArrays (pin pcs a p).spec c (V₀ c) A) (Proc.devRef .tc b))))
    (hX := fun c => by
      iintro ⟨HU, -, -, Hp, -⟩; imodintro
      isplitl [Hp]
      · iexists _; iexact Hp
      · iexact HU)
    (hin := fun c => by
      rw [RDat.familyOf_self]
      refine Entails.trans ?_ (hin c)
      unfold ΦA ΦT
      iintro ⟨Hp, Ht, Hr⟩
      isplitr [Ht]
      · isplitl [Hr] <;> iassumption
      · iexact Ht)
    (hout := fun c => by
      rw [RDat.familyOf_self]
      refine (hout c).trans ?_
      rw [ownSems0_none]; unfold ΦA
      iintro ⟨Hr, Hp⟩
      isplitl [Hp]
      · iexact Hp
      · isplitr
        · iempintro
        · iexact Hr)
    (htail := fun c Q' => by
      rw [RDat.familyOf_self]
      iintro ⟨Hk, Hb, Ha, HZ⟩
      ihave H1 := (arraysAt_open (rd c)) $$ Ha
      icases H1 with ⟨%A, %hAt, H1⟩
      have hB : (rd c).arrays A = arrBufs (pin pcs a p).spec c (fun b => withArrays (pin pcs a p).spec c (V₀ c) A (Proc.devRef .tc b)) :=
        ((rd c).arrBufs_eq_arrays kit₀.sharedIn kit₀.arr_whole (hq c) _ A fun w =>
          (withArrays_arr_shared (pin pcs a p).spec c (V₀ c) A ((rd c).ArrAt_sharedIn kit₀.sharedIn (V₀ c) (hA c) (pin pcs a p).N A hAt) w).symm).symm
      iapply (tail_seqs_bufs_b pcs defs₀ 𝒱₀ (pcs p).pre (pin pcs a p).spec c (V₀ c) A opss hsub hfresh hkeep Q')
      isplitl [Hk]
      · iintro ⟨Hb2, Ha2, Hu⟩
        iapply Hk
        isplitl [Hb2]
        · iexact Hb2
        isplitl [Ha2]
        · iapply (arraysAt_close (rd c) A hAt); iapply (Entails.of_eq hB.symm); iexact Ha2
        · iexists A; isplitr
          · ipureintro; exact hAt
          · iexact Hu
      · isplitl [Hb]
        · iexact Hb
        isplitl [H1]
        · iapply (Entails.of_eq hB); iexact H1
        · iexact HZ)
    (QY := fun c s => ∃ A, (∀ w, (rd c).ArrAt w (pin pcs a p).N (A w)) ∧ ∀ b ∈ restRefsP sig (pcs p).pre (pin pcs a p).spec, s.mem ((c.tc : Thread nD τ).loc b)
      = StableHlo.after opss.flatten (withArrays (pin pcs a p).spec c (V₀ c) A) (Proc.devRef .tc b))
    (hY := fun c s' => by
      iintro ⟨-, HZ, HSI⟩
      icases HZ with ⟨%A, %hAt, HZ⟩
      unfold unscopedRestP
      ihave H1 := (pointsTo_read_all (restRefsP sig (pcs p).pre (pin pcs a p).spec) (fun b => (c.tc : Thread nD τ).loc b)
        (fun b => StableHlo.after opss.flatten (withArrays (pin pcs a p).spec c (V₀ c) A) (Proc.devRef .tc b)) s') $$ [HZ HSI]
      · isplitl [HZ] <;> iassumption
      icases H1 with ⟨%hZ, HSI⟩
      imodintro
      isplitr
      · ipureintro; exact ⟨A, hAt, hZ⟩
      · iexact HSI)
    (hQ := fun s h hz => ⟨fun c => ⟨fun w => by simpa only [RDat.familyOf_self] using (h c).1 w, (h c).2.2⟩, hz⟩)

end Cert.Tail

end
-- ==== Proof.KI.RunA.lean ====
module

public import proofs.«01_k».proof.Proof.Gen.KernelIdeal.Frame
public import proofs.«01_k».proof.Proof.Gen.KernelIdeal.Skeleton
public import Idealize.ShloMosaic.Lib.Pipeline.DatRel
public import Idealize.ShloMosaic.Lib.WritesUnit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- the body where the first coordinate is 0: both accumulators' rows are stored -/
noncomputable def runA (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : k0_cond1 i = 1#1) (hc2 : ¬k0_cond2 i = 1#1) (hc3 : k0_cond3 i = 1#1) (hc4 : ¬k0_cond4 i = 1#1) (hc5 : ¬k0_cond5 i = 1#1)
    (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    Σ' (LU : List (View.Piece (Elt F) S256x600 .f32)), { LI : List (View.Piece (Elt F) S256x600 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (arg14.view.loc (c : Thread nD τ) ↦[arg14.view.set]{fullShare} arg14.view.writes (Elt F) (harg14.unread x14) LU) ∗ (arg15.view.loc (c : Thread nD τ) ↦[arg15.view.set]{fullShare} arg15.view.writes (Elt F) (harg15.unread x15) LI)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__body_eq_skeleton]; unfold cc0__body_skel; simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    iexact H15

end Cert.KernelIdeal.Att

end
-- ==== Proof.KI.RunB.lean ====
module

public import proofs.«01_k».proof.Proof.Gen.KernelIdeal.Frame
public import proofs.«01_k».proof.Proof.Gen.KernelIdeal.Skeleton
public import Idealize.ShloMosaic.Lib.Pipeline.DatRel
public import Idealize.ShloMosaic.Lib.WritesUnit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- the body where the first coordinate is 1, 2 or 3: both accumulators' rows are added to -/
noncomputable def runB (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : ¬k0_cond5 i = 1#1)
    (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    Σ' (LU : List (View.Piece (Elt F) S256x600 .f32)), { LI : List (View.Piece (Elt F) S256x600 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (arg14.view.loc (c : Thread nD τ) ↦[arg14.view.set]{fullShare} arg14.view.writes (Elt F) (harg14.unread x14) LU) ∗ (arg15.view.loc (c : Thread nD τ) ↦[arg15.view.set]{fullShare} arg15.view.writes (Elt F) (harg15.unread x15) LI)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__body_eq_skeleton]; unfold cc0__body_skel; simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    iexact H15

end Cert.KernelIdeal.Att

end
-- ==== Proof.KI.RunC.lean ====
module

public import proofs.«01_k».proof.Proof.Gen.KernelIdeal.Frame
public import proofs.«01_k».proof.Proof.Gen.KernelIdeal.Skeleton
public import Idealize.ShloMosaic.Lib.Pipeline.DatRel
public import Idealize.ShloMosaic.Lib.WritesUnit

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- the body where the first coordinate is 4: both accumulators' rows are added to, then the output's rows are stored -/
noncomputable def runC (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : k0_cond5 i = 1#1)
    (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    Σ' (LO : List (View.Piece (Elt F) S256x1 .f32)), Σ' (LU : List (View.Piece (Elt F) S256x600 .f32)), { LI : List (View.Piece (Elt F) S256x600 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (arg13.view.loc (c : Thread nD τ) ↦[arg13.view.set]{fullShare} arg13.view.writes (Elt F) (harg13.unread x13) LO) ∗ (arg14.view.loc (c : Thread nD τ) ↦[arg14.view.set]{fullShare} arg14.view.writes (Elt F) (harg14.unread x14) LU) ∗ (arg15.view.loc (c : Thread nD τ) ↦[arg15.view.set]{fullShare} arg15.view.writes (Elt F) (harg15.unread x15) LI)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__body_eq_skeleton]; unfold cc0__body_skel; simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.KernelIdeal.Att

end
-- ==== Proof.KI.Body.lean ====
module

public import proofs.«01_k».proof.Proof.KI.RunA
public import proofs.«01_k».proof.Proof.KI.RunB
public import proofs.«01_k».proof.Proof.KI.RunC
public import proofs.«01_k».proof.Proof.Gen.KernelIdeal.Skeleton
public import Idealize.ShloMosaic.Lib.Pipeline.DatRel
public import Idealize.ShloMosaic.Lib.WritesUnit
public import Idealize.ShloMosaic.Lib.WholeRead
public import Idealize.ShloMosaic.Lib.Pointwise

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Rows `128 b` to `128 b + 127` of a 256-row array. -/
def rows {α : Type} {N : ℕ} (b : Fin 2) (x : (⟨2, ![256, N]⟩ : Shape).Idx → α) : (⟨2, ![128, N]⟩ : Shape).Idx → α :=
  fun j => x (ix2 (n0 := 256) (n1 := N) ⟨128 * b.val + (j 0).val, by have := (j 0).isLt; have : (j 0).val < 128 := this; omega⟩ (j 1))

/-- A 256-row array with rows `128 b` to `128 b + 127` replaced. -/
def ins {α : Type} {N : ℕ} (b : Fin 2) (v : (⟨2, ![128, N]⟩ : Shape).Idx → α) (x : (⟨2, ![256, N]⟩ : Shape).Idx → α) :
    (⟨2, ![256, N]⟩ : Shape).Idx → α :=
  fun y => if (y 0).val / 128 = b.val then v (ix2 (n0 := 128) (n1 := N) ⟨(y 0).val % 128, Nat.mod_lt _ (by norm_num)⟩ (y 1)) else x y

theorem rows_ins {α : Type} {N : ℕ} (b : Fin 2) (v : (⟨2, ![128, N]⟩ : Shape).Idx → α) (x : (⟨2, ![256, N]⟩ : Shape).Idx → α) :
    rows b (ins b v x) = v := by
  funext j
  have hj : (j 0).val < 128 := (j 0).isLt
  refine (if_pos (show (128 * b.val + (j 0).val) / 128 = b.val by omega)).trans ?_
  refine congrArg v ?_
  refine Eq.trans ?_ (ix2_eta j)
  refine congrArg (fun q => ix2 q _) ?_
  exact Fin.ext (by show (128 * b.val + (j 0).val) % 128 = (j 0).val; omega)

theorem rows_ins_ne {α : Type} {N : ℕ} {b b' : Fin 2} (hb : b ≠ b') (v : (⟨2, ![128, N]⟩ : Shape).Idx → α) (x : (⟨2, ![256, N]⟩ : Shape).Idx → α) :
    rows b (ins b' v x) = rows b x := by
  funext j
  have hj : (j 0).val < 128 := (j 0).isLt
  have hv : b.val ≠ b'.val := fun h => hb (Fin.ext h)
  exact if_neg (show ¬ (128 * b.val + (j 0).val) / 128 = b'.val by omega)

section Pieces

variable {sg : RefSig} {Val : EltTy → Type} {κ : Kind} {sp : Space} {e : EltTy} {N : ℕ}

theorem read_ins {m : Memref sg κ sp ⟨2, ![256, N]⟩ e} (h : m.IsWhole) (x : (⟨2, ![256, N]⟩ : Shape).Idx → Val e)
    {off : Fin 2 → ℕ} (b : Fin 2) (hoff : off = ![128 * b.val, 0]) (inb : ∀ a, off a + (![128, N] : Fin 2 → ℕ) a ≤ (![256, N] : Fin 2 → ℕ) a)
    (w : (⟨2, ![128, N]⟩ : Shape).Idx → Val e) :
    m.view.read Val (m.view.writes Val (h.unread x) [(⟨Rect.unit (s := ⟨2, ![256, N]⟩) off ![128, N] inb, w⟩ : View.Piece Val ⟨2, ![256, N]⟩ e)])
      = ins b w x := by
  funext y
  have hy : (y 0).val < 256 := (y 0).isLt
  have hb := b.isLt
  by_cases hd : (y 0).val / 128 = b.val
  · rw [View.read_writes_cons_rows_of_mem m.view (h.unread x) inb w [] y
      (ix2 (n0 := 128) (n1 := N) ⟨(y 0).val % 128, Nat.mod_lt _ (by norm_num)⟩ (y 1)) hoff
      (by show (y 0).val = 128 * b.val + (y 0).val % 128; omega) rfl]
    unfold ins
    rw [if_pos hd]
  · rw [View.read_writes_cons_rows_of_not_mem (W := 128) m.view (h.unread x) inb w [] y hoff rfl (by omega)]
    unfold ins
    rw [if_neg hd, View.writes_nil]
    exact congrFun (h.read_unread x) y

theorem readAt_rows {m : Memref sg κ sp ⟨2, ![256, N]⟩ e} (h : m.IsWhole) (x : (⟨2, ![256, N]⟩ : Shape).Idx → Val e)
    {off : Fin 2 → ℕ} (b : Fin 2) (hoff : off = ![128 * b.val, 0]) (inb : ∀ a, off a + (![128, N] : Fin 2 → ℕ) a ≤ (![256, N] : Fin 2 → ℕ) a) :
    View.readAt Val m.view (Rect.unit (s := ⟨2, ![256, N]⟩) off ![128, N] inb).toLoadRect (h.unread x) = rows b x := by
  subst hoff
  funext j
  rw [h.readAt_unread]
  unfold rows
  congr 1
  funext a
  refine Fin.ext ?_
  match a with
  | ⟨0, _⟩ => show 128 * b.val + 1 * (j 0).val = 128 * b.val + (j 0).val; omega
  | ⟨1, _⟩ => show 0 + 1 * (j 1).val = (j 1).val; omega

theorem readCov_rows [∀ e, Nonempty (Val e)] (m : Memref sg κ sp ⟨2, ![256, N]⟩ e)
    {off off' : Fin 2 → ℕ} (b : Fin 2) (hoff : off = ![128 * b.val, 0]) (hoff' : off' = ![128 * b.val, 0])
    (inb : ∀ a, off a + (![128, N] : Fin 2 → ℕ) a ≤ (![256, N] : Fin 2 → ℕ) a)
    (inb' : ∀ a, off' a + (![128, N] : Fin 2 → ℕ) a ≤ (![256, N] : Fin 2 → ℕ) a) (w : (⟨2, ![128, N]⟩ : Shape).Idx → Val e) :
    m.view.readCov [(⟨Rect.unit (s := ⟨2, ![256, N]⟩) off ![128, N] inb, w⟩ : View.Piece Val ⟨2, ![256, N]⟩ e)]
      (Rect.unit (s := ⟨2, ![256, N]⟩) off' ![128, N] inb').toLoadRect = w := by
  subst hoff'
  funext j
  refine View.read_writes_cons_rows_of_mem m.view m.view.junk inb w [] _ j hoff ?_ ?_
  · show 128 * b.val + 1 * (j 0).val = 128 * b.val + (j 0).val; omega
  · show 0 + 1 * (j 1).val = (j 1).val; omega

theorem readAt_all {s : Shape} {m : Memref sg κ sp s e} (h : m.IsWhole) (x : s.Idx → Val e) {off : Fin s.rank → ℕ} (hoff : off = fun _ => 0)
    (inb : ∀ a, off a + s.size a ≤ s.size a) :
    View.readAt Val m.view (Rect.unit (s := s) off s.size inb).toLoadRect (h.unread x) = x := by
  rw [View.readAt_eq_ld, h.read_unread]
  exact View.ld_unit_zero hoff inb x

end Pieces

theorem zero2 : (![0, 0] : Fin 2 → ℕ) = fun _ => 0 := by funext a; fin_cases a <;> rfl
theorem zero3 : (![0, 0, 0] : Fin 3 → ℕ) = fun _ => 0 := by funext a; fin_cases a <;> rfl

theorem off1 : ∀ i : grid0.Coords, k0_off1 i = ![128 * (i 1).val, 0] := by decide +kernel
theorem off2 : ∀ i : grid0.Coords, k0_off2 i = ![128 * (i 1).val, 0] := by decide +kernel
theorem off3 : ∀ i : grid0.Coords, k0_off3 i = ![128 * (i 1).val, 0] := by decide +kernel
theorem off4 : ∀ i : grid0.Coords, k0_off4 i = ![128 * (i 1).val, 0] := by decide +kernel
theorem off5 : ∀ i : grid0.Coords, k0_off5 i = ![128 * (i 1).val, 0] := by decide +kernel
theorem off6 : ∀ i : grid0.Coords, k0_off6 i = ![128 * (i 1).val, 0] := by decide +kernel

set_option maxHeartbeats 1000000 in
theorem runA_U (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : k0_cond1 i = 1#1) (hc2 : ¬k0_cond2 i = 1#1) (hc3 : k0_cond3 i = 1#1) (hc4 : ¬k0_cond4 i = 1#1) (hc5 : ¬k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg14.view.read (Elt F) (arg14.view.writes (Elt F) (harg14.unread x14) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).1) = ins (i 1) (k0_pay6 x6 x2 x4) x14 := by
  unfold runA
  dsimp only
  sl_unfold_run_names
  refine (read_ins harg14 x14 (i 1) (off1 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2]

set_option maxHeartbeats 1000000 in
theorem runA_I (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : k0_cond1 i = 1#1) (hc2 : ¬k0_cond2 i = 1#1) (hc3 : k0_cond3 i = 1#1) (hc4 : ¬k0_cond4 i = 1#1) (hc5 : ¬k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg15.view.read (Elt F) (arg15.view.writes (Elt F) (harg15.unread x15) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).2.1) = ins (i 1) (k0_pay2 (k0_pay8 x7 x3) (k0_pay9 x5)) x15 := by
  unfold runA
  dsimp only
  sl_unfold_run_names
  refine (read_ins harg15 x15 (i 1) (off3 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2]

set_option maxHeartbeats 1000000 in
theorem runB_U (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : ¬k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg14.view.read (Elt F) (arg14.view.writes (Elt F) (harg14.unread x14) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).1) = ins (i 1) (k0_pay7 x6 x2 x4 (rows (i 1) x14)) x14 := by
  unfold runB
  dsimp only
  sl_unfold_run_names
  refine (read_ins harg14 x14 (i 1) (off2 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2, readAt_rows harg14 x14 (i 1) (off2 i)]

set_option maxHeartbeats 1000000 in
theorem runB_I (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : ¬k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg15.view.read (Elt F) (arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).2.1) = ins (i 1) (k0_pay3 (k0_pay8 x7 x3) (k0_pay9 x5) (rows (i 1) x15)) x15 := by
  unfold runB
  dsimp only
  sl_unfold_run_names
  refine (read_ins harg15 x15 (i 1) (off4 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2, readAt_rows harg15 x15 (i 1) (off4 i)]

set_option maxHeartbeats 1000000 in
theorem runC_U (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg14.view.read (Elt F) (arg14.view.writes (Elt F) (harg14.unread x14) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).2.1) = ins (i 1) (k0_pay7 x6 x2 x4 (rows (i 1) x14)) x14 := by
  unfold runC
  dsimp only
  sl_unfold_run_names
  refine (read_ins harg14 x14 (i 1) (off2 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2, readAt_rows harg14 x14 (i 1) (off2 i)]

set_option maxHeartbeats 1000000 in
theorem runC_I (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg15.view.read (Elt F) (arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).2.2.1) = ins (i 1) (k0_pay3 (k0_pay8 x7 x3) (k0_pay9 x5) (rows (i 1) x15)) x15 := by
  unfold runC
  dsimp only
  sl_unfold_run_names
  refine (read_ins harg15 x15 (i 1) (off4 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2, readAt_rows harg15 x15 (i 1) (off4 i)]

set_option maxHeartbeats 1000000 in
theorem runC_O (c : Dev nD) (i : grid0.Coords) (arg2 : Memref sig .tc .vmem S128x8x768 .f32) (harg2 : arg2.IsWhole) (arg3 : Memref sig .tc .vmem S128x8x768 .f32) (harg3 : arg3.IsWhole) (arg4 : Memref sig .tc .vmem S6144x600 .bf16) (harg4 : arg4.IsWhole) (arg5 : Memref sig .tc .vmem S6144x600 .bf16) (harg5 : arg5.IsWhole) (arg6 : Memref sig .tc .vmem S8x128 .f32) (harg6 : arg6.IsWhole) (arg7 : Memref sig .tc .vmem S8x128 .f32) (harg7 : arg7.IsWhole) (arg8 : Memref sig .tc .vmem S1x600 .f32) (harg8 : arg8.IsWhole) (arg9 : Memref sig .tc .vmem S1x600 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S1x1 .f32) (harg12 : arg12.IsWhole) (arg13 : Memref sig .tc .vmem S256x1 .f32) (harg13 : arg13.IsWhole) (arg14 : Memref sig .tc .vmem S256x600 .f32) (harg14 : arg14.IsWhole) (arg15 : Memref sig .tc .vmem S256x600 .f32) (harg15 : arg15.IsWhole) (hc1 : ¬k0_cond1 i = 1#1) (hc2 : k0_cond2 i = 1#1) (hc3 : ¬k0_cond3 i = 1#1) (hc4 : k0_cond4 i = 1#1) (hc5 : k0_cond5 i = 1#1) (x2 : Vec F S128x8x768 .f32) (x3 : Vec F S128x8x768 .f32) (x4 : Vec F S6144x600 .bf16) (x5 : Vec F S6144x600 .bf16) (x6 : Vec F S8x128 .f32) (x7 : Vec F S8x128 .f32) (x8 : Vec F S1x600 .f32) (x9 : Vec F S1x600 .f32) (x10 : Vec F S256x1 .f32) (x11 : Vec F S256x1 .f32) (x12 : Vec F S1x1 .f32) (x13 : Vec F S256x1 .f32) (x14 : Vec F S256x600 .f32) (x15 : Vec F S256x600 .f32) :
    arg13.view.read (Elt F) (arg13.view.writes (Elt F) (harg13.unread x13) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 x2 x3 x4 x5 x6 x7 x8 x9 x10 x11 x12 x13 x14 x15).1) = ins (i 1) (k0_pay4 (k0_pay7 x6 x2 x4 (rows (i 1) x14)) x8 (k0_pay3 (k0_pay8 x7 x3) (k0_pay9 x5) (rows (i 1) x15)) x9 (rows (i 1) x10) (rows (i 1) x11) x12) x13 := by
  unfold runC
  dsimp only
  sl_unfold_run_names
  refine (read_ins harg13 x13 (i 1) (off6 i) _ _).trans ?_
  congr 1
  simp only [readAt_all harg6 x6 zero2, readAt_all harg2 x2 zero3, readAt_all harg4 x4 zero2, readAt_all harg7 x7 zero2, readAt_all harg3 x3 zero3, readAt_all harg5 x5 zero2, readAt_all harg8 x8 zero2, readAt_all harg9 x9 zero2, readAt_all harg12 x12 zero2, readAt_rows harg14 x14 (i 1) (off2 i), readAt_rows harg15 x15 (i 1) (off4 i), readAt_rows harg10 x10 (i 1) (off6 i), readAt_rows harg11 x11 (i 1) (off6 i), readCov_rows arg14 (i 1) (off2 i) (off5 i), readCov_rows arg15 (i 1) (off4 i) (off5 i)]

end Cert.KernelIdeal.Att
end
-- ==== Proof.KI.Att.lean ====
module

public import proofs.«01_k».proof.Proof.KI.Body
public import proofs.«01_k».proof.Proof.L.Tail
public import proofs.«01_k».proof.Proof.Gen.KernelIdeal.Frame
public import Idealize.ShloMosaic.Lib.Pipeline.ArrRel
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' current staging memrefs and the scratch memrefs -/

abbrev ms0_0 (t : Fin cfg0.N) : Memref sig .tc .vmem S128x8x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x600 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x600 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x600 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x600 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1 .f32 := win0_11.stage (cfg0.slots t 11)
abbrev hs0_11 (t : Fin cfg0.N) : (ms0_11 t).IsWhole := hstage0_11 ((cfg0.slots t 11).cast nbuf0_11)
abbrev scM0 : Memref sig .tc .vmem S256x600 .f32 := Memref.whole cc0_scratch0
abbrev scM1 : Memref sig .tc .vmem S256x600 .f32 := Memref.whole cc0_scratch1
abbrev hsc0 : scM0.IsWhole := Memref.isWhole_whole _
abbrev hsc1 : scM1.IsWhole := Memref.isWhole_whole _

/-- What the launch hands the region: the two scratch buffers and the generator register, each at some contents. -/
theorem PhiA0_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA
  rw [scopedRest0_eq]
  simp only [scM0, scM1, owns_whole]
  try rfl

/-! ## The grid -/

theorem t_lt (t : Fin cfg0.N) : t.val < 10 := lt_of_lt_of_eq t.isLt N_0

theorem t_eq : ∀ t : Fin cfg0.N, t.val = 2 * (grid0.coords t 0).val + (grid0.coords t 1).val := by decide +kernel

theorem cond1_iff : ∀ t : Fin cfg0.N, k0_cond1 (grid0.coords t) = 1#1 ↔ (grid0.coords t 0).val = 0 := by decide +kernel
theorem cond2_iff : ∀ t : Fin cfg0.N, k0_cond2 (grid0.coords t) = 1#1 ↔ (grid0.coords t 0).val ≠ 0 := by decide +kernel
theorem cond3_iff : ∀ t : Fin cfg0.N, k0_cond3 (grid0.coords t) = 1#1 ↔ (grid0.coords t 0).val = 0 := by decide +kernel
theorem cond4_iff : ∀ t : Fin cfg0.N, k0_cond4 (grid0.coords t) = 1#1 ↔ (grid0.coords t 0).val ≠ 0 := by decide +kernel
theorem cond5_iff : ∀ t : Fin cfg0.N, k0_cond5 (grid0.coords t) = 1#1 ↔ (grid0.coords t 0).val = 4 := by decide +kernel

/-- The grid's point of channel block `k` and batch half `b`. -/
def pt (k : ℕ) (b : Fin 2) : Fin cfg0.N := ⟨(2 * k + b.val) % 10, lt_of_lt_of_eq (Nat.mod_lt _ (by norm_num)) N_0.symm⟩

theorem pt_eq (t : Fin cfg0.N) (k : ℕ) (b : Fin 2) (h : t.val = 2 * k + b.val) : pt k b = t :=
  Fin.ext (by show (2 * k + b.val) % 10 = t.val; rw [← h]; exact Nat.mod_eq_of_lt (t_lt t))

/-! ## The carried sums and the rows of the result -/

/-- The user tower's sum over the channel blocks `0 … k`, for batch half `b`. -/
def accU (c : Dev nD) (b : Fin 2) : ℕ → Vec F S128x600 .f32
  | 0 => k0_pay6 (iblk m c 4 (pt 0 b)) (iblk m c 0 (pt 0 b)) (iblk m c 2 (pt 0 b))
  | k + 1 => k0_pay7 (iblk m c 4 (pt (k + 1) b)) (iblk m c 0 (pt (k + 1) b)) (iblk m c 2 (pt (k + 1) b)) (accU c b k)

/-- The item tower's sum over the channel blocks `0 … k`, for batch half `b`. -/
def accI (c : Dev nD) (b : Fin 2) : ℕ → Vec F S128x600 .f32
  | 0 => k0_pay2 (k0_pay8 (iblk m c 5 (pt 0 b)) (iblk m c 1 (pt 0 b))) (k0_pay9 (iblk m c 3 (pt 0 b)))
  | k + 1 => k0_pay3 (k0_pay8 (iblk m c 5 (pt (k + 1) b)) (iblk m c 1 (pt (k + 1) b))) (k0_pay9 (iblk m c 3 (pt (k + 1) b))) (accI c b k)

/-- The rows of the result that the last channel block's point of batch half `b` stores. -/
def outR (c : Dev nD) (b : Fin 2) : Vec F S128x1 .f32 :=
  k0_pay4 (accU m c b 4) (iblk m c 6 (pt 4 b)) (accI m c b 4) (iblk m c 7 (pt 4 b)) (rows b (iblk m c 8 (pt 4 b))) (rows b (iblk m c 9 (pt 4 b)))
    (iblk m c 10 (pt 4 b))

/-- What the two scratch buffers hold before point `n`: each batch half's rows at the sums its last point left. -/
def Acc (c : Dev nD) (n : ℕ) (xs0 xs1 : Vec F S256x600 .f32) : Prop :=
  ∀ (b : Fin 2) (k : ℕ), 2 * k + b.val < n → n ≤ 2 * (k + 1) + b.val → rows b xs0 = accU m c b k ∧ rows b xs1 = accI m c b k

theorem Acc_zero (c : Dev nD) (xs0 xs1 : Vec F S256x600 .f32) : Acc m c 0 xs0 xs1 := fun b k h => absurd h (by omega)

theorem Acc_succ (c : Dev nD) (n k : ℕ) (b : Fin 2) (hn : n = 2 * k + b.val) (xs0 xs1 : Vec F S256x600 .f32) (h : Acc m c n xs0 xs1)
    (vU vI : Vec F S128x600 .f32) (hU : vU = accU m c b k) (hI : vI = accI m c b k) : Acc m c (n + 1) (ins b vU xs0) (ins b vI xs1) := by
  intro b' k' h1 h2
  have hb := b.isLt
  have hb' := b'.isLt
  by_cases hbb : b' = b
  · subst hbb
    obtain rfl : k' = k := by omega
    rw [rows_ins, rows_ins]
    exact ⟨hU, hI⟩
  · have hv : b'.val ≠ b.val := fun e => hbb (Fin.ext e)
    rw [rows_ins_ne hbb, rows_ins_ne hbb]
    exact h b' k' (by omega) (by omega)

/-- What the output's staging buffer holds after point `t`: the rows stored so far. -/
def OutOk (c : Dev nD) (t : ℕ) (X : Vec F S256x1 .f32) : Prop := ∀ b : Fin 2, 8 + b.val ≤ t → rows b X = outR m c b

theorem OutOk_early (c : Dev nD) (t : ℕ) (ht : t < 8) (X : Vec F S256x1 .f32) : OutOk m c t X := fun b h => absurd h (by omega)

theorem OutOk_succ (c : Dev nD) (t : ℕ) (b : Fin 2) (ht : t = 8 + b.val) (Y : Vec F S256x1 .f32) (hY : ∀ b' : Fin 2, 8 + b'.val < t → rows b' Y = outR m c b')
    (v : Vec F S128x1 .f32) (hv : v = outR m c b) : OutOk m c t (ins b v Y) := by
  intro b' h
  by_cases hbb : b' = b
  · subst hbb
    rw [rows_ins]; exact hv
  · have hv : b'.val ≠ b.val := fun e => hbb (Fin.ext e)
    rw [rows_ins_ne hbb]
    exact hY b' (by omega)

/-! ## The proof data -/

/-- The invariant between points: the scratch buffers at the sums so far, the generator register at some state. -/
def PhiS (c : Dev nD) (n : ℕ) : sProp 𝕄 :=
  iprop(∃ xs0 xs1, ⌜Acc m c n xs0 xs1⌝ ∗ owns (c : Thread nD τ) scM0 fullShare xs0 ∗ owns (c : Thread nD τ) scM1 fullShare xs1 ∗ (∃ r, prngReg c r))

/-- Arrays as the region finds them; each input's block left in place; the output's contents are held to `OutOk` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := PhiS m c t.val
  q _ := fullShare
  owed _ := 0

/-- The output is the one window held to a relation. -/
def fgt (w : Fin 12) : Bool := match w with
  | ⟨11, _⟩ => true
  | ⟨_, _⟩ => false

def Rl (c : Dev nD) (w : Fin cfg0.W) (t : Fin cfg0.N) : ((cfg0.win w).block.Idx → Elt F (cfg0.win w).elt) → Prop := match w with
  | ⟨11, _⟩ => fun X => OutOk m c t.val X
  | ⟨_, _⟩ => fun _ => True

/-- The relational data. -/
def rdat (c : Dev nD) : Pipeline.RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body may find in the output's staging buffer at point `t`: the rows stored before. -/
theorem finds_out (c : Dev nD) (t : Fin cfg0.N) (Y : Vec F S256x1 .f32) (h : (rdat m c).Finds 11 t Y) :
    ∀ b : Fin 2, 8 + b.val < t.val → rows b Y = outR m c b := by
  intro b hb
  have ht := t_lt t
  rcases ((rdat m c).finds_of_pos (w := 11) (t := t) rfl (by omega) Y).mp h with hf | hl
  · have := (flush0_11 _).mp hf
    exfalso
    have h2 : (t.val - 1) % 10 = 9 := this
    omega
  · exact ((dats m 0 c).toRRel_leaves (w := 11) rfl hl : OutOk m c (t.val - 1) Y) b (show 8 + b.val ≤ t.val - 1 by omega)

theorem Acc_A (c : Dev nD) (t : Fin cfg0.N) (hk : (grid0.coords t 0).val = 0) (xs0 xs1 : Vec F S256x600 .f32) (h : Acc m c t.val xs0 xs1) :
    Acc m c (t.val + 1) (ins (grid0.coords t 1) (k0_pay6 (iblk m c 4 t) (iblk m c 0 t) (iblk m c 2 t)) xs0)
      (ins (grid0.coords t 1) (k0_pay2 (k0_pay8 (iblk m c 5 t) (iblk m c 1 t)) (k0_pay9 (iblk m c 3 t))) xs1) := by
  have ht := t_eq t
  rw [hk] at ht
  have e := pt_eq t 0 (grid0.coords t 1) ht
  refine Acc_succ m c t.val 0 (grid0.coords t 1) ht xs0 xs1 h _ _ ?_ ?_
  · show _ = k0_pay6 _ _ _
    rw [e]
  · show _ = k0_pay2 _ _
    rw [e]

theorem Acc_k (c : Dev nD) (t : Fin cfg0.N) (hk : (grid0.coords t 0).val ≠ 0) (xs0 xs1 : Vec F S256x600 .f32) (h : Acc m c t.val xs0 xs1) :
    k0_pay7 (iblk m c 4 t) (iblk m c 0 t) (iblk m c 2 t) (rows (grid0.coords t 1) xs0) = accU m c (grid0.coords t 1) (grid0.coords t 0).val
      ∧ k0_pay3 (k0_pay8 (iblk m c 5 t) (iblk m c 1 t)) (k0_pay9 (iblk m c 3 t)) (rows (grid0.coords t 1) xs1) = accI m c (grid0.coords t 1) (grid0.coords t 0).val := by
  have ht := t_eq t
  obtain ⟨k, hk'⟩ := Nat.exists_eq_succ_of_ne_zero hk
  rw [hk'] at ht
  have e := pt_eq t (k + 1) (grid0.coords t 1) ht
  obtain ⟨h0, h1⟩ := h (grid0.coords t 1) k (by omega) (by omega)
  rw [h0, h1, hk']
  constructor
  · show _ = k0_pay7 _ _ _ _
    rw [e]
  · show _ = k0_pay3 _ _ _
    rw [e]

theorem Acc_B (c : Dev nD) (t : Fin cfg0.N) (hk : (grid0.coords t 0).val ≠ 0) (xs0 xs1 : Vec F S256x600 .f32) (h : Acc m c t.val xs0 xs1) :
    Acc m c (t.val + 1) (ins (grid0.coords t 1) (k0_pay7 (iblk m c 4 t) (iblk m c 0 t) (iblk m c 2 t) (rows (grid0.coords t 1) xs0)) xs0)
      (ins (grid0.coords t 1) (k0_pay3 (k0_pay8 (iblk m c 5 t) (iblk m c 1 t)) (k0_pay9 (iblk m c 3 t)) (rows (grid0.coords t 1) xs1)) xs1) :=
  Acc_succ m c t.val _ (grid0.coords t 1) (t_eq t) xs0 xs1 h _ _ (Acc_k m c t hk xs0 xs1 h).1 (Acc_k m c t hk xs0 xs1 h).2

theorem Acc_C (c : Dev nD) (t : Fin cfg0.N) (hk : (grid0.coords t 0).val = 4) (xs0 xs1 : Vec F S256x600 .f32) (h : Acc m c t.val xs0 xs1) :
    Acc m c (t.val + 1) (ins (grid0.coords t 1) (k0_pay7 (iblk m c 4 t) (iblk m c 0 t) (iblk m c 2 t) (rows (grid0.coords t 1) xs0)) xs0)
      (ins (grid0.coords t 1) (k0_pay3 (k0_pay8 (iblk m c 5 t) (iblk m c 1 t)) (k0_pay9 (iblk m c 3 t)) (rows (grid0.coords t 1) xs1)) xs1) :=
  Acc_B m c t (by rw [hk]; decide) xs0 xs1 h

theorem Out_C (c : Dev nD) (t : Fin cfg0.N) (hk : (grid0.coords t 0).val = 4) (xs0 xs1 : Vec F S256x600 .f32) (h : Acc m c t.val xs0 xs1)
    (Y : Vec F S256x1 .f32) (hY : ∀ b : Fin 2, 8 + b.val < t.val → rows b Y = outR m c b) :
    OutOk m c t.val (ins (grid0.coords t 1) (k0_pay4 (k0_pay7 (iblk m c 4 t) (iblk m c 0 t) (iblk m c 2 t) (rows (grid0.coords t 1) xs0)) (iblk m c 6 t)
      (k0_pay3 (k0_pay8 (iblk m c 5 t) (iblk m c 1 t)) (k0_pay9 (iblk m c 3 t)) (rows (grid0.coords t 1) xs1)) (iblk m c 7 t)
      (rows (grid0.coords t 1) (iblk m c 8 t)) (rows (grid0.coords t 1) (iblk m c 9 t)) (iblk m c 10 t)) Y) := by
  obtain ⟨h0, h1⟩ := Acc_k m c t (by rw [hk]; decide) xs0 xs1 h
  have ht := t_eq t
  rw [hk] at ht
  have e := pt_eq t 4 (grid0.coords t 1) ht
  refine OutOk_succ m c t.val (grid0.coords t 1) (by omega) Y hY _ ?_
  rw [h0, h1, hk]
  unfold outR
  rw [e]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜OutOk m c t.val X⌝ ∗ owns (c : Thread nD τ) (ms0_11 t) fullShare X))

set_option maxHeartbeats 4000000 in
theorem sound_A (c : Dev nD) (t : Fin cfg0.N) (hk : (grid0.coords t 0).val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%xs0, %xs1, %hAcc, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 ((cond1_iff t).mpr hk) (mt (cond2_iff t).mp (fun h => h hk)) ((cond3_iff t).mpr hk) (mt (cond4_iff t).mp (fun h => h hk)) (mt (cond5_iff t).mp (by rw [hk]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · iexists _; iexists _
    isplitr
    swap
    · isplitl [HS0]
      · unfold owns; iexists _; isplitr
        swap; · iexact HS0
        ipureintro; exact runA_U c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 ((cond1_iff t).mpr hk) (mt (cond2_iff t).mp (fun h => h hk)) ((cond3_iff t).mpr hk) (mt (cond4_iff t).mp (fun h => h hk)) (mt (cond5_iff t).mp (by rw [hk]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      isplitl [HS1]
      · unfold owns; iexists _; isplitr
        swap; · iexact HS1
        ipureintro; exact runA_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 ((cond1_iff t).mpr hk) (mt (cond2_iff t).mp (fun h => h hk)) ((cond3_iff t).mpr hk) (mt (cond4_iff t).mp (fun h => h hk)) (mt (cond5_iff t).mp (by rw [hk]; decide)) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      iexact Hg
    · ipureintro
      exact Acc_A m c t hk xs0 xs1 hAcc
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr
  swap
  · iexact H11
  · ipureintro
    exact OutOk_early m c t.val (by have := t_eq t; have := (grid0.coords t 1).isLt; have : (grid0.coords t 1).val < 2 := this; have := (grid0.coords t 0).isLt; have : (grid0.coords t 0).val < 5 := this; omega) _

set_option maxHeartbeats 4000000 in
theorem sound_B (c : Dev nD) (t : Fin cfg0.N) (hk : (grid0.coords t 0).val ≠ 0) (hk4 : (grid0.coords t 0).val ≠ 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%xs0, %xs1, %hAcc, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp hk) ((cond2_iff t).mpr hk) (mt (cond3_iff t).mp hk) ((cond4_iff t).mpr hk) (mt (cond5_iff t).mp hk4) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · iexists _; iexists _
    isplitr
    swap
    · isplitl [HS0]
      · unfold owns; iexists _; isplitr
        swap; · iexact HS0
        ipureintro; exact runB_U c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp hk) ((cond2_iff t).mpr hk) (mt (cond3_iff t).mp hk) ((cond4_iff t).mpr hk) (mt (cond5_iff t).mp hk4) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      isplitl [HS1]
      · unfold owns; iexists _; isplitr
        swap; · iexact HS1
        ipureintro; exact runB_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp hk) ((cond2_iff t).mpr hk) (mt (cond3_iff t).mp hk) ((cond4_iff t).mpr hk) (mt (cond5_iff t).mp hk4) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      iexact Hg
    · ipureintro
      exact Acc_B m c t hk xs0 xs1 hAcc
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr
  swap
  · iexact H11
  · ipureintro
    exact OutOk_early m c t.val (by have := t_eq t; have := (grid0.coords t 1).isLt; have : (grid0.coords t 1).val < 2 := this; have := (grid0.coords t 0).isLt; have : (grid0.coords t 0).val < 5 := this; omega) _

set_option maxHeartbeats 4000000 in
theorem sound_C (c : Dev nD) (t : Fin cfg0.N) (hk : (grid0.coords t 0).val = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, after0_0, after0_1, after0_2, after0_3, after0_4, after0_5, after0_6, after0_7, after0_8, after0_9, after0_10]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%xs0, %xs1, %hAcc, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp (by rw [hk]; decide)) ((cond2_iff t).mpr (by rw [hk]; decide)) (mt (cond3_iff t).mp (by rw [hk]; decide)) ((cond4_iff t).mpr (by rw [hk]; decide)) ((cond5_iff t).mpr hk) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · iexists _; iexists _
    isplitr
    swap
    · isplitl [HS0]
      · unfold owns; iexists _; isplitr
        swap; · iexact HS0
        ipureintro; exact runC_U c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp (by rw [hk]; decide)) ((cond2_iff t).mpr (by rw [hk]; decide)) (mt (cond3_iff t).mp (by rw [hk]; decide)) ((cond4_iff t).mpr (by rw [hk]; decide)) ((cond5_iff t).mpr hk) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      isplitl [HS1]
      · unfold owns; iexists _; isplitr
        swap; · iexact HS1
        ipureintro; exact runC_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp (by rw [hk]; decide)) ((cond2_iff t).mpr (by rw [hk]; decide)) (mt (cond3_iff t).mp (by rw [hk]; decide)) ((cond4_iff t).mpr (by rw [hk]; decide)) ((cond5_iff t).mpr hk) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
      iexact Hg
    · ipureintro
      exact Acc_C m c t hk xs0 xs1 hAcc
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr
  swap
  · unfold owns; iexists _; isplitr
    swap; · iexact H11
    ipureintro; exact runC_O c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0 hsc0 scM1 hsc1 (mt (cond1_iff t).mp (by rw [hk]; decide)) ((cond2_iff t).mpr (by rw [hk]; decide)) (mt (cond3_iff t).mp (by rw [hk]; decide)) ((cond4_iff t).mpr (by rw [hk]; decide)) ((cond5_iff t).mpr hk) (iblk m c 0 t) (iblk m c 1 t) (iblk m c 2 t) (iblk m c 3 t) (iblk m c 4 t) (iblk m c 5 t) (iblk m c 6 t) (iblk m c 7 t) (iblk m c 8 t) (iblk m c 9 t) (iblk m c 10 t) Y xs0 xs1
  · ipureintro
    exact Out_C m c t hk xs0 xs1 hAcc Y (finds_out m c t Y hY)

theorem sound_body (c : Dev nD) (t : Fin cfg0.N) :
    bodyPre m c t ⊢ wp frame (wpE (defs₀ (F := F)) Variants.none c none) Set.univ (bodyAt0 t) (fun _ => bodyPost m c t) := by
  by_cases hk : (grid0.coords t 0).val = 0
  · exact sound_A m c t hk
  · by_cases hk4 : (grid0.coords t 0).val = 4
    · exact sound_C m c t hk4
    · exact sound_B m c t hk hk4

theorem defs₀_row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = PhiS m c 0 from rfl, PhiA0_eq]
  unfold PhiS
  iintro ⟨⟨⟨%x0, H0⟩, ⟨%x1, H1⟩⟩, Hg⟩
  iexists x0; iexists x1
  isplitr
  · ipureintro; exact Acc_zero m c x0 x1
  isplitl [H0]; · iexact H0
  isplitl [H1]; · iexact H1
  iexact Hg

theorem hout (c : Dev nD) : (rdat m c).Φ (Fin.last cfg0.N) ⊢ Pipeline.ΦA spec0 c := by
  rw [show (rdat m c).Φ (Fin.last cfg0.N) = PhiS m c (Fin.last cfg0.N).val from rfl, PhiA0_eq]
  unfold PhiS
  iintro ⟨%x0, %x1, -, H0, H1, Hg⟩
  isplitr [Hg]
  · isplitl [H0]
    · iexists x0; iexact H0
    · iexists x1; iexact H1
  · iexact Hg

end Cert.KernelIdeal.Att

end
-- ==== Proof.KI.Final.lean ====
module

public import proofs.«01_k».proof.Proof.KI.Att

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one
set_option backward.isDefEq.respectTransparency.types false in
set_option maxHeartbeats 1600000 in
/-- Every run of the program ends, its counters at zero and its buffers as the relational data and the host lines say. -/
theorem run_main : θ_run defs (onTc (τ := τ) (main (F := F))) (s₀ m ρ)
    (fun r => Cert.Tail.Post (fun q => (cfgs q).toPCfg) (fun q => (cfgs q).toPCfg_adm) 0 (rdat m) (V0 m) [hostOps1] r.2 ∧ r.2.sem = fun _ => 0) :=
  Cert.Tail.run (fun q => (cfgs q).toPCfg (Val := Elt F)) (fun q => (cfgs q).toPCfg_adm) (0 : Fin 1) launch0.toP.to₀ defs₀ Variants.none (rdat m) m ρ main
    (fun c => (obligation m c).toRRel) (fun c w hw => (rdat m c).q_eq_shareOf_of_share_full launch0.win.arr_inj ((dats m 0 c).share_full fun _ => rfl) w hw) (fun _ _ => rfl) (V0 m) [hostOps1] sfx_sub sfx_fresh sfx_keeps
    (hmain m Variants.none) (A_eq m) (fun _ k => k.elim0)
    (fun c => (show _ ⊢ Pipeline.ΦA spec0 c from by iintro ⟨H, -⟩; iexact H).trans (hin m c)) (hout m)

/-! ## The final state read -/

theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h
    exact k.elim0⟩

/-- The host line after the region writes its result alone. -/
theorem tail_keeps (b : Ref sig .tc) (hb : b ≠ main_v108) (σ : Valuation τ sig (Elt F)) :
    StableHlo.after (List.flatten [hostOps1]) σ (Proc.devRef .tc b) = σ (Proc.devRef .tc b) := by
  refine StableHlo.after_of_forall_not_mem (b := Proc.devRef .tc b) _ _ (List.forall_iff_forall_mem.mp ?_)
  simp only [hostOps1, List.flatten_cons, List.flatten_nil, List.append_nil, List.Forall, StableHlo.reshape_writes, Finset.mem_singleton]
  exact StableHlo.devRef_ne_of_ne hb

/-- An argument no window stages ends as launched. -/
theorem rest_arg (c : Dev nD) (A) (b : Ref sig .tc) (hb : b ≠ main_v108) (hw : ∀ w, Pipeline.arrRef spec0 w ≠ b) :
    StableHlo.after (List.flatten [hostOps1]) (Pipeline.withArrays spec0 c (V0 m c) A) (Proc.devRef .tc b) = V m c b := by
  rw [tail_keeps b hb, Pipeline.withArrays_of_ne _ c (V0 m c) _ b hw]

/-- The rows of the result, by batch half. -/
def res (c : Dev nD) : Vec F S256 .f32 := fun j =>
  outR m c ⟨(j 0).val / 128, by have h : (j 0).val < 256 := (j 0).isLt; omega⟩ (ix2 (n0 := 128) (n1 := 1) ⟨(j 0).val % 128, Nat.mod_lt _ (by norm_num)⟩ 0)

theorem whole11 : (cfg0.win 11).WholeAt ⟨9, by decide⟩ := by
  refine ⟨(flush0_11 _).mpr rfl, fun t ht => Fin.ext ?_, by decide +kernel⟩
  have := (flush0_11 t).mp ht
  have := t_lt t
  show t.val = 9
  omega

/-- The output's array after the run. -/
theorem out_arr (c : Dev nD) (G) (hG : (rdat m c).ArrAt 11 cfg0.N G) (j : S256x1.Idx) :
    (G : Vec F S256x1 .f32) j = outR m c ⟨(j 0).val / 128, by have h : (j 0).val < 256 := (j 0).isLt; omega⟩ (ix2 (n0 := 128) (n1 := 1) ⟨(j 0).val % 128, Nat.mod_lt _ (by norm_num)⟩ 0) := by
  obtain ⟨X, hX, hj⟩ := hG.emb_eq_of_wholeAt whole11
  have hO : OutOk m c 9 X := (dats m 0 c).toRRel_leaves (w := 11) rfl hX
  have h0 : (j 0).val < 256 := (j 0).isLt
  have h1 : (j 1).val < 1 := (j 1).isLt
  rw [← hO ⟨(j 0).val / 128, by omega⟩ (show 8 + (j 0).val / 128 ≤ 9 by omega)]
  refine (hj j).trans ?_
  unfold rows
  refine congrArg (X : Vec F S256x1 .f32) (funext fun a => ?_)
  match a with
  | ⟨0, _⟩ => exact Fin.ext (show (j 0).val = 128 * ((j 0).val / 128) + (j 0).val % 128 by omega)
  | ⟨1, _⟩ => exact Fin.ext (show (j 1).val = 0 by omega)

/-- One column read as a vector. -/
theorem cast_col {α : Type} (x : S256x1.Idx → α) (h : S256x1.ShapeCasts S256) (j : S256.Idx) :
    shapeCast S256 x h j = x (ix2 (n0 := 256) (n1 := 1) (j 0) 0) := by
  refine shapeCast_apply x h j _ ?_
  rw [Shape.rowMajor_val_one, Shape.rowMajor_val_two]
  show (j 0).val * 1 + 0 = (j 0).val
  omega

theorem tail_res (c : Dev nD) (A) (hA : (rdat m c).ArrAt 11 cfg0.N (A 11)) :
    StableHlo.after (List.flatten [hostOps1]) (Pipeline.withArrays spec0 c (V0 m c) A) (Proc.devRef .tc main_v108) = res m c := by
  simp only [hostOps1, List.flatten_cons, List.flatten_nil, List.append_nil, StableHlo.after_cons, StableHlo.after_nil]
  rw [StableHlo.reshape_result']
  funext j
  have e := Pipeline.withArrays_arr spec0 launch0.win.arr_inj c (V0 m c) A 11
  refine (cast_col _ _ j).trans ?_
  refine (congrFun (show Pipeline.withArrays spec0 c (V0 m c) A (Proc.devRef .tc main_v107) = A 11 from e) _).trans ?_
  exact out_arr m c _ hA _

set_option maxHeartbeats 4000000 in
/-- The frame and the result in one: at every final state the arguments are as launched, the result holds `res`, and the counters are at zero. -/
theorem final : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0)
      ∧ ∀ c : Dev nD, r.2.mem ((c.tc : Thread nD τ).loc main_v108) = res m c) := by
  refine (θ_run defs _ _).mono (fun r h => ?_) (run_main m ρ)
  refine ⟨⟨fun c => ?_, h.2⟩, fun c => ?_⟩
  · obtain ⟨hw, A, hA, hr⟩ := h.1 c
    exact ⟨(hr main_arg0 (mem_rest _ (by decide) (by decide))).trans ((rest_arg m c A main_arg0 (by decide) (by decide)).trans (V_main_arg0 m c)),
      (hr main_arg1 (mem_rest _ (by decide) (by decide))).trans ((rest_arg m c A main_arg1 (by decide) (by decide)).trans (V_main_arg1 m c)),
      ((congrFun ((rdat m c).ArrAt_in 0 rfl _) _).mp (hw 0)).trans ((A_eq m c 0).trans (V_main_arg2 m c)),
      (hr main_arg3 (mem_rest _ (by decide) (by decide))).trans ((rest_arg m c A main_arg3 (by decide) (by decide)).trans (V_main_arg3 m c)),
      ((congrFun ((rdat m c).ArrAt_in 1 rfl _) _).mp (hw 1)).trans ((A_eq m c 1).trans (V_main_arg4 m c)),
      (hr main_arg5 (mem_rest _ (by decide) (by decide))).trans ((rest_arg m c A main_arg5 (by decide) (by decide)).trans (V_main_arg5 m c)),
      (hr main_arg6 (mem_rest _ (by decide) (by decide))).trans ((rest_arg m c A main_arg6 (by decide) (by decide)).trans (V_main_arg6 m c)),
      (hr main_arg7 (mem_rest _ (by decide) (by decide))).trans ((rest_arg m c A main_arg7 (by decide) (by decide)).trans (V_main_arg7 m c)),
      (hr main_arg8 (mem_rest _ (by decide) (by decide))).trans ((rest_arg m c A main_arg8 (by decide) (by decide)).trans (V_main_arg8 m c)),
      (hr main_arg9 (mem_rest _ (by decide) (by decide))).trans ((rest_arg m c A main_arg9 (by decide) (by decide)).trans (V_main_arg9 m c)),
      (hr main_arg10 (mem_rest _ (by decide) (by decide))).trans ((rest_arg m c A main_arg10 (by decide) (by decide)).trans (V_main_arg10 m c)),
      (hr main_arg11 (mem_rest _ (by decide) (by decide))).trans ((rest_arg m c A main_arg11 (by decide) (by decide)).trans (V_main_arg11 m c)),
      (hr main_arg12 (mem_rest _ (by decide) (by decide))).trans ((rest_arg m c A main_arg12 (by decide) (by decide)).trans (V_main_arg12 m c)),
      (hr main_arg13 (mem_rest _ (by decide) (by decide))).trans ((rest_arg m c A main_arg13 (by decide) (by decide)).trans (V_main_arg13 m c)),
      (hr main_arg14 (mem_rest _ (by decide) (by decide))).trans ((rest_arg m c A main_arg14 (by decide) (by decide)).trans (V_main_arg14 m c)),
      (hr main_arg15 (mem_rest _ (by decide) (by decide))).trans ((rest_arg m c A main_arg15 (by decide) (by decide)).trans (V_main_arg15 m c)),
      (hr main_arg16 (mem_rest _ (by decide) (by decide))).trans ((rest_arg m c A main_arg16 (by decide) (by decide)).trans (V_main_arg16 m c))⟩
  · obtain ⟨hw, A, hA, hr⟩ := h.1 c
    exact (hr main_v108 (mem_rest _ (by decide) (by decide))).trans (tail_res m c A (hA 11))

end Cert.KernelIdeal.Att

end
-- ==== Proof.KI.Host.lean ====
module

public import proofs.«01_k».proof.Proof.Gen.KernelIdeal.Frame

@[expose] public section

set_option maxRecDepth 16384

noncomputable section

namespace Cert.KernelIdeal.Host

open Idealize.ShloMosaic Idealize.ShloMosaic.TcCoe Idealize.SL.Sem Idealize.ShloMosaic.StableHlo
open Cert.KernelIdeal.Gen

variable {F : FTy → Type} [FloatOps F] [Named F]

variable (m : (ℓ : Loc nD τ sig) → Buf (Elt F) ℓ)

/-- An argument of core `c` at launch. -/
abbrev A (c : Dev nD) (b : Ref sig .tc) : Buf (Elt F) ((c : Thread nD τ).loc b) := m ((c : Thread nD τ).loc b)

theorem V_v8 (c : Dev nD) : V m c main_v8 = transpose S40x256 [1, 0] (Host.dotGeneral dot_S256x6_S256x6x40_S256x40_1_1_n_2_0_0 none (Host.gather gather_S47155x6_S256x1_S256x6_1_0_n_n_0_1_16 (A m c main_arg10) (broadcastInDim S256x1 ![0] bcast_S256_S256x1_0 (select (cmpi .slt (A m c main_arg0) (broadcastInDim S256 ![] bcast_S_S256 (constantI S_ 32 0#32))) (addi (A m c main_arg0) (broadcastInDim S256 ![] bcast_S_S256 (constantI S_ 32 47155#32))) (A m c main_arg0)))) (A m c main_arg3)) transposes_S256x40_S40x256_1_0 := by
  unfold V V0
  simp only [List.flatten_cons, List.flatten_nil, List.append_nil, after_append]
  simp only [hostOps0, hostOps0_60]
  after_results_simp

theorem V_v17 (c : Dev nD) : V m c main_v17 = transpose S40x256 [1, 0] (Host.dotGeneral dot_S256x6_S256x6x40_S256x40_1_1_n_2_0_0 none (Host.gather gather_S16532x6_S256x1_S256x6_1_0_n_n_0_1_16 (A m c main_arg11) (broadcastInDim S256x1 ![0] bcast_S256_S256x1_0 (select (cmpi .slt (A m c main_arg1) (broadcastInDim S256 ![] bcast_S_S256 (constantI S_ 32 0#32))) (addi (A m c main_arg1) (broadcastInDim S256 ![] bcast_S_S256 (constantI S_ 32 16532#32))) (A m c main_arg1)))) (A m c main_arg5)) transposes_S256x40_S40x256_1_0 := by
  unfold V V0
  simp only [List.flatten_cons, List.flatten_nil, List.append_nil, after_append]
  simp only [hostOps0, hostOps0_60]
  after_results_simp

theorem V_v88 (c : Dev nD) : V m c main_v88 = broadcastInDim S1x600 ![1] bcast_S600_S1x600_1 (shapeCast S600 (broadcastInDim S40x15 ![0] bcast_S40_S40x15_0 (A m c main_arg7)) shapeCasts_S40x15_S600) := by
  unfold V V0
  simp only [List.flatten_cons, List.flatten_nil, List.append_nil, after_append]
  simp only [hostOps0, hostOps0_60]
  after_results_simp
  rfl

theorem V_v91 (c : Dev nD) : V m c main_v91 = broadcastInDim S1x600 ![1] bcast_S600_S1x600_1 (shapeCast S600 (broadcastInDim S40x15 ![0] bcast_S40_S40x15_0 (A m c main_arg9)) shapeCasts_S40x15_S600) := by
  unfold V V0
  simp only [List.flatten_cons, List.flatten_nil, List.append_nil, after_append]
  simp only [hostOps0, hostOps0_60]
  after_results_simp
  rfl

theorem V_v98 (c : Dev nD) : V m c main_v98 = Host.gather gather_S47155x1_S256x1_S256x1_1_0_n_n_0_1_11 (A m c main_arg12) (broadcastInDim S256x1 ![0] bcast_S256_S256x1_0 (select (cmpi .slt (A m c main_arg0) (broadcastInDim S256 ![] bcast_S_S256 (constantI S_ 32 0#32))) (addi (A m c main_arg0) (broadcastInDim S256 ![] bcast_S_S256 (constantI S_ 32 47155#32))) (A m c main_arg0))) := by
  unfold V V0
  simp only [List.flatten_cons, List.flatten_nil, List.append_nil, after_append]
  simp only [hostOps0, hostOps0_60]
  after_results_simp

theorem V_v105 (c : Dev nD) : V m c main_v105 = Host.gather gather_S16532x1_S256x1_S256x1_1_0_n_n_0_1_11 (A m c main_arg13) (broadcastInDim S256x1 ![0] bcast_S256_S256x1_0 (select (cmpi .slt (A m c main_arg1) (broadcastInDim S256 ![] bcast_S_S256 (constantI S_ 32 0#32))) (addi (A m c main_arg1) (broadcastInDim S256 ![] bcast_S_S256 (constantI S_ 32 16532#32))) (A m c main_arg1))) := by
  unfold V V0
  simp only [List.flatten_cons, List.flatten_nil, List.append_nil, after_append]
  simp only [hostOps0, hostOps0_60]
  after_results_simp

theorem V_v106 (c : Dev nD) : V m c main_v106 = shapeCast S1x1 (A m c main_arg14) shapeCasts_S1_S1x1 := by
  unfold V V0
  simp only [List.flatten_cons, List.flatten_nil, List.append_nil, after_append]
  simp only [hostOps0, hostOps0_60]
  after_results_simp
  rfl

end Cert.KernelIdeal.Host
end
-- ==== Proof.KI.Toep.lean ====
module

public import proofs.«01_k».proof.Proof.KI.Host

public import Idealize.ShloMosaic.Lib.KernelVsHost
public import Idealize.ShloMosaic.Lib.Pointwise
public import Idealize.ShloMosaic.Lib.Pipeline.ValueKit

@[expose] public section

set_option maxRecDepth 16384

noncomputable section

namespace Cert.KernelIdeal.Host

open Idealize.ShloMosaic Idealize.ShloMosaic.TcCoe Idealize.SL.Sem Idealize.ShloMosaic.StableHlo
open Cert.KernelIdeal.Gen

/-- The fifteen shifted copies of the weights, one after another along a last axis. -/
def stk {α : Type} (x : S40x754x40.Idx → α) (v : S_.Idx → α) : S40x768x40x15.Idx → α :=
  concatenate S40x768x40x15 3 [⟨S40x768x40x1, broadcastInDim S40x768x40x1 ![0, 1, 2] bcast_S40x768x40_S40x768x40x1_0_1_2 (pad S40x768x40 ![0, 0, 0] ![0, 14, 0] ![0, 0, 0] x v pads_S40x754x40_S40x768x40_000_0140_000 h_S_)⟩,
    ⟨S40x768x40x1, broadcastInDim S40x768x40x1 ![0, 1, 2] bcast_S40x768x40_S40x768x40x1_0_1_2 (pad S40x768x40 ![0, 1, 0] ![0, 13, 0] ![0, 0, 0] x v pads_S40x754x40_S40x768x40_000_1130_000 h_S_)⟩,
    ⟨S40x768x40x1, broadcastInDim S40x768x40x1 ![0, 1, 2] bcast_S40x768x40_S40x768x40x1_0_1_2 (pad S40x768x40 ![0, 2, 0] ![0, 12, 0] ![0, 0, 0] x v pads_S40x754x40_S40x768x40_000_2120_000 h_S_)⟩,
    ⟨S40x768x40x1, broadcastInDim S40x768x40x1 ![0, 1, 2] bcast_S40x768x40_S40x768x40x1_0_1_2 (pad S40x768x40 ![0, 3, 0] ![0, 11, 0] ![0, 0, 0] x v pads_S40x754x40_S40x768x40_000_3110_000 h_S_)⟩,
    ⟨S40x768x40x1, broadcastInDim S40x768x40x1 ![0, 1, 2] bcast_S40x768x40_S40x768x40x1_0_1_2 (pad S40x768x40 ![0, 4, 0] ![0, 10, 0] ![0, 0, 0] x v pads_S40x754x40_S40x768x40_000_4100_000 h_S_)⟩,
    ⟨S40x768x40x1, broadcastInDim S40x768x40x1 ![0, 1, 2] bcast_S40x768x40_S40x768x40x1_0_1_2 (pad S40x768x40 ![0, 5, 0] ![0, 9, 0] ![0, 0, 0] x v pads_S40x754x40_S40x768x40_000_590_000 h_S_)⟩,
    ⟨S40x768x40x1, broadcastInDim S40x768x40x1 ![0, 1, 2] bcast_S40x768x40_S40x768x40x1_0_1_2 (pad S40x768x40 ![0, 6, 0] ![0, 8, 0] ![0, 0, 0] x v pads_S40x754x40_S40x768x40_000_680_000 h_S_)⟩,
    ⟨S40x768x40x1, broadcastInDim S40x768x40x1 ![0, 1, 2] bcast_S40x768x40_S40x768x40x1_0_1_2 (pad S40x768x40 ![0, 7, 0] ![0, 7, 0] ![0, 0, 0] x v pads_S40x754x40_S40x768x40_000_770_000 h_S_)⟩,
    ⟨S40x768x40x1, broadcastInDim S40x768x40x1 ![0, 1, 2] bcast_S40x768x40_S40x768x40x1_0_1_2 (pad S40x768x40 ![0, 8, 0] ![0, 6, 0] ![0, 0, 0] x v pads_S40x754x40_S40x768x40_000_860_000 h_S_)⟩,
    ⟨S40x768x40x1, broadcastInDim S40x768x40x1 ![0, 1, 2] bcast_S40x768x40_S40x768x40x1_0_1_2 (pad S40x768x40 ![0, 9, 0] ![0, 5, 0] ![0, 0, 0] x v pads_S40x754x40_S40x768x40_000_950_000 h_S_)⟩,
    ⟨S40x768x40x1, broadcastInDim S40x768x40x1 ![0, 1, 2] bcast_S40x768x40_S40x768x40x1_0_1_2 (pad S40x768x40 ![0, 10, 0] ![0, 4, 0] ![0, 0, 0] x v pads_S40x754x40_S40x768x40_000_1040_000 h_S_)⟩,
    ⟨S40x768x40x1, broadcastInDim S40x768x40x1 ![0, 1, 2] bcast_S40x768x40_S40x768x40x1_0_1_2 (pad S40x768x40 ![0, 11, 0] ![0, 3, 0] ![0, 0, 0] x v pads_S40x754x40_S40x768x40_000_1130_000_2 h_S_)⟩,
    ⟨S40x768x40x1, broadcastInDim S40x768x40x1 ![0, 1, 2] bcast_S40x768x40_S40x768x40x1_0_1_2 (pad S40x768x40 ![0, 12, 0] ![0, 2, 0] ![0, 0, 0] x v pads_S40x754x40_S40x768x40_000_1220_000 h_S_)⟩,
    ⟨S40x768x40x1, broadcastInDim S40x768x40x1 ![0, 1, 2] bcast_S40x768x40_S40x768x40x1_0_1_2 (pad S40x768x40 ![0, 13, 0] ![0, 1, 0] ![0, 0, 0] x v pads_S40x754x40_S40x768x40_000_1310_000 h_S_)⟩,
    ⟨S40x768x40x1, broadcastInDim S40x768x40x1 ![0, 1, 2] bcast_S40x768x40_S40x768x40x1_0_1_2 (pad S40x768x40 ![0, 14, 0] ![0, 0, 0] ![0, 0, 0] x v pads_S40x754x40_S40x768x40_000_1400_000 h_S_)⟩] concatenates_S40x768x40x1_S40x768x40x1_S40x768x40x1_S40x768x40x1_S40x768x40x1_S40x768x40x1_S40x768x40x1_S40x768x40x1_S40x768x40x1_S40x768x40x1_S40x768x40x1_S40x768x40x1_S40x768x40x1_S40x768x40x1_S40x768x40x1_S40x768x40x15_d3

/-- A copy shifted by `h` rows, read at a row. -/
theorem pad_read {α : Type} (h : ℕ) (lo hi : Fin 3 → ℕ) (hlo : lo = ![0, h, 0]) (x : S40x754x40.Idx → α) (v : S_.Idx → α)
    (hp : S40x754x40.Pads lo hi ![0, 0, 0] S40x768x40) (c : Fin 40) (p : Fin 768) (o : Fin 40) :
    pad S40x768x40 lo hi ![0, 0, 0] x v hp h_S_ (ix3 c p o)
      = if hh : h ≤ p.val ∧ p.val < h + 754 then x (ix3 c (⟨p.val - h, by omega⟩ : Fin 754) o) else v (Shape.Idx.first h_S_) := by
  subst hlo
  split_ifs with hh
  · refine pad_apply_of_inside _ _ _ x v hp h_S_ _ _ fun a => ?_
    match a with
    | ⟨0, _⟩ => show c.val = 0 + c.val * (0 + 1); omega
    | ⟨1, _⟩ => show p.val = h + (p.val - h) * (0 + 1); omega
    | ⟨2, _⟩ => show o.val = 0 + o.val * (0 + 1); omega
  · refine pad_apply_of_not_inside _ _ _ x v hp h_S_ _ 1 fun hin => hh ?_
    have h1 : h ≤ p.val := hin.1
    have h2 : (p.val - h) / (0 + 1) < 754 := hin.2.2
    omega

set_option maxHeartbeats 2000000 in
theorem stk_apply {α : Type} (x : S40x754x40.Idx → α) (v : S_.Idx → α) (c : Fin 40) (p : Fin 768) (o : Fin 40) (h : Fin 15) :
    stk x v (ix4 c p o h)
      = if hh : h.val ≤ p.val ∧ p.val < h.val + 754 then x (ix3 c (⟨p.val - h.val, by omega⟩ : Fin 754) o) else v (Shape.Idx.first h_S_) := by
  unfold stk
  match h with
  | ⟨0, _⟩ =>
    refine Eq.trans (concatenate_apply_piece (t := S40x768x40x15) 3 _ _ _ 0 ?_ S40x768x40x1 (broadcastInDim S40x768x40x1 ![0, 1, 2] bcast_S40x768x40_S40x768x40x1_0_1_2 (pad S40x768x40 ![0, 0, 0] ![0, 14, 0] ![0, 0, 0] x v pads_S40x754x40_S40x768x40_000_0140_000 h_S_)) ?_ rfl 0 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 0 _ _ rfl x v _ c p o)
      match a with
      | ⟨0, _⟩ => rfl
      | ⟨1, _⟩ => rfl
      | ⟨2, _⟩ => rfl
  | ⟨1, _⟩ =>
    refine Eq.trans (concatenate_apply_piece (t := S40x768x40x15) 3 _ _ _ 1 ?_ S40x768x40x1 (broadcastInDim S40x768x40x1 ![0, 1, 2] bcast_S40x768x40_S40x768x40x1_0_1_2 (pad S40x768x40 ![0, 1, 0] ![0, 13, 0] ![0, 0, 0] x v pads_S40x754x40_S40x768x40_000_1130_000 h_S_)) ?_ rfl 1 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 1 _ _ rfl x v _ c p o)
      match a with
      | ⟨0, _⟩ => rfl
      | ⟨1, _⟩ => rfl
      | ⟨2, _⟩ => rfl
  | ⟨2, _⟩ =>
    refine Eq.trans (concatenate_apply_piece (t := S40x768x40x15) 3 _ _ _ 2 ?_ S40x768x40x1 (broadcastInDim S40x768x40x1 ![0, 1, 2] bcast_S40x768x40_S40x768x40x1_0_1_2 (pad S40x768x40 ![0, 2, 0] ![0, 12, 0] ![0, 0, 0] x v pads_S40x754x40_S40x768x40_000_2120_000 h_S_)) ?_ rfl 2 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 2 _ _ rfl x v _ c p o)
      match a with
      | ⟨0, _⟩ => rfl
      | ⟨1, _⟩ => rfl
      | ⟨2, _⟩ => rfl
  | ⟨3, _⟩ =>
    refine Eq.trans (concatenate_apply_piece (t := S40x768x40x15) 3 _ _ _ 3 ?_ S40x768x40x1 (broadcastInDim S40x768x40x1 ![0, 1, 2] bcast_S40x768x40_S40x768x40x1_0_1_2 (pad S40x768x40 ![0, 3, 0] ![0, 11, 0] ![0, 0, 0] x v pads_S40x754x40_S40x768x40_000_3110_000 h_S_)) ?_ rfl 3 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 3 _ _ rfl x v _ c p o)
      match a with
      | ⟨0, _⟩ => rfl
      | ⟨1, _⟩ => rfl
      | ⟨2, _⟩ => rfl
  | ⟨4, _⟩ =>
    refine Eq.trans (concatenate_apply_piece (t := S40x768x40x15) 3 _ _ _ 4 ?_ S40x768x40x1 (broadcastInDim S40x768x40x1 ![0, 1, 2] bcast_S40x768x40_S40x768x40x1_0_1_2 (pad S40x768x40 ![0, 4, 0] ![0, 10, 0] ![0, 0, 0] x v pads_S40x754x40_S40x768x40_000_4100_000 h_S_)) ?_ rfl 4 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 4 _ _ rfl x v _ c p o)
      match a with
      | ⟨0, _⟩ => rfl
      | ⟨1, _⟩ => rfl
      | ⟨2, _⟩ => rfl
  | ⟨5, _⟩ =>
    refine Eq.trans (concatenate_apply_piece (t := S40x768x40x15) 3 _ _ _ 5 ?_ S40x768x40x1 (broadcastInDim S40x768x40x1 ![0, 1, 2] bcast_S40x768x40_S40x768x40x1_0_1_2 (pad S40x768x40 ![0, 5, 0] ![0, 9, 0] ![0, 0, 0] x v pads_S40x754x40_S40x768x40_000_590_000 h_S_)) ?_ rfl 5 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 5 _ _ rfl x v _ c p o)
      match a with
      | ⟨0, _⟩ => rfl
      | ⟨1, _⟩ => rfl
      | ⟨2, _⟩ => rfl
  | ⟨6, _⟩ =>
    refine Eq.trans (concatenate_apply_piece (t := S40x768x40x15) 3 _ _ _ 6 ?_ S40x768x40x1 (broadcastInDim S40x768x40x1 ![0, 1, 2] bcast_S40x768x40_S40x768x40x1_0_1_2 (pad S40x768x40 ![0, 6, 0] ![0, 8, 0] ![0, 0, 0] x v pads_S40x754x40_S40x768x40_000_680_000 h_S_)) ?_ rfl 6 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 6 _ _ rfl x v _ c p o)
      match a with
      | ⟨0, _⟩ => rfl
      | ⟨1, _⟩ => rfl
      | ⟨2, _⟩ => rfl
  | ⟨7, _⟩ =>
    refine Eq.trans (concatenate_apply_piece (t := S40x768x40x15) 3 _ _ _ 7 ?_ S40x768x40x1 (broadcastInDim S40x768x40x1 ![0, 1, 2] bcast_S40x768x40_S40x768x40x1_0_1_2 (pad S40x768x40 ![0, 7, 0] ![0, 7, 0] ![0, 0, 0] x v pads_S40x754x40_S40x768x40_000_770_000 h_S_)) ?_ rfl 7 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 7 _ _ rfl x v _ c p o)
      match a with
      | ⟨0, _⟩ => rfl
      | ⟨1, _⟩ => rfl
      | ⟨2, _⟩ => rfl
  | ⟨8, _⟩ =>
    refine Eq.trans (concatenate_apply_piece (t := S40x768x40x15) 3 _ _ _ 8 ?_ S40x768x40x1 (broadcastInDim S40x768x40x1 ![0, 1, 2] bcast_S40x768x40_S40x768x40x1_0_1_2 (pad S40x768x40 ![0, 8, 0] ![0, 6, 0] ![0, 0, 0] x v pads_S40x754x40_S40x768x40_000_860_000 h_S_)) ?_ rfl 8 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 8 _ _ rfl x v _ c p o)
      match a with
      | ⟨0, _⟩ => rfl
      | ⟨1, _⟩ => rfl
      | ⟨2, _⟩ => rfl
  | ⟨9, _⟩ =>
    refine Eq.trans (concatenate_apply_piece (t := S40x768x40x15) 3 _ _ _ 9 ?_ S40x768x40x1 (broadcastInDim S40x768x40x1 ![0, 1, 2] bcast_S40x768x40_S40x768x40x1_0_1_2 (pad S40x768x40 ![0, 9, 0] ![0, 5, 0] ![0, 0, 0] x v pads_S40x754x40_S40x768x40_000_950_000 h_S_)) ?_ rfl 9 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 9 _ _ rfl x v _ c p o)
      match a with
      | ⟨0, _⟩ => rfl
      | ⟨1, _⟩ => rfl
      | ⟨2, _⟩ => rfl
  | ⟨10, _⟩ =>
    refine Eq.trans (concatenate_apply_piece (t := S40x768x40x15) 3 _ _ _ 10 ?_ S40x768x40x1 (broadcastInDim S40x768x40x1 ![0, 1, 2] bcast_S40x768x40_S40x768x40x1_0_1_2 (pad S40x768x40 ![0, 10, 0] ![0, 4, 0] ![0, 0, 0] x v pads_S40x754x40_S40x768x40_000_1040_000 h_S_)) ?_ rfl 10 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 10 _ _ rfl x v _ c p o)
      match a with
      | ⟨0, _⟩ => rfl
      | ⟨1, _⟩ => rfl
      | ⟨2, _⟩ => rfl
  | ⟨11, _⟩ =>
    refine Eq.trans (concatenate_apply_piece (t := S40x768x40x15) 3 _ _ _ 11 ?_ S40x768x40x1 (broadcastInDim S40x768x40x1 ![0, 1, 2] bcast_S40x768x40_S40x768x40x1_0_1_2 (pad S40x768x40 ![0, 11, 0] ![0, 3, 0] ![0, 0, 0] x v pads_S40x754x40_S40x768x40_000_1130_000_2 h_S_)) ?_ rfl 11 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 11 _ _ rfl x v _ c p o)
      match a with
      | ⟨0, _⟩ => rfl
      | ⟨1, _⟩ => rfl
      | ⟨2, _⟩ => rfl
  | ⟨12, _⟩ =>
    refine Eq.trans (concatenate_apply_piece (t := S40x768x40x15) 3 _ _ _ 12 ?_ S40x768x40x1 (broadcastInDim S40x768x40x1 ![0, 1, 2] bcast_S40x768x40_S40x768x40x1_0_1_2 (pad S40x768x40 ![0, 12, 0] ![0, 2, 0] ![0, 0, 0] x v pads_S40x754x40_S40x768x40_000_1220_000 h_S_)) ?_ rfl 12 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 12 _ _ rfl x v _ c p o)
      match a with
      | ⟨0, _⟩ => rfl
      | ⟨1, _⟩ => rfl
      | ⟨2, _⟩ => rfl
  | ⟨13, _⟩ =>
    refine Eq.trans (concatenate_apply_piece (t := S40x768x40x15) 3 _ _ _ 13 ?_ S40x768x40x1 (broadcastInDim S40x768x40x1 ![0, 1, 2] bcast_S40x768x40_S40x768x40x1_0_1_2 (pad S40x768x40 ![0, 13, 0] ![0, 1, 0] ![0, 0, 0] x v pads_S40x754x40_S40x768x40_000_1310_000 h_S_)) ?_ rfl 13 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 13 _ _ rfl x v _ c p o)
      match a with
      | ⟨0, _⟩ => rfl
      | ⟨1, _⟩ => rfl
      | ⟨2, _⟩ => rfl
  | ⟨14, _⟩ =>
    refine Eq.trans (concatenate_apply_piece (t := S40x768x40x15) 3 _ _ _ 14 ?_ S40x768x40x1 (broadcastInDim S40x768x40x1 ![0, 1, 2] bcast_S40x768x40_S40x768x40x1_0_1_2 (pad S40x768x40 ![0, 14, 0] ![0, 0, 0] ![0, 0, 0] x v pads_S40x754x40_S40x768x40_000_1400_000 h_S_)) ?_ rfl 14 ?_ (ix4 c p o (0 : Fin 1)) (fun b hb => ?_) ?_) ?_
    · simp
    · rfl
    · rfl
    · match b with
      | ⟨0, _⟩ => rfl
      | ⟨1, _⟩ => rfl
      | ⟨2, _⟩ => rfl
      | ⟨3, _⟩ => exact absurd rfl hb
    · rfl
    · refine (broadcastInDim_apply _ _ _ _ (ix3 c p o) fun a => ?_).trans (pad_read 14 _ _ rfl x v _ c p o)
      match a with
      | ⟨0, _⟩ => rfl
      | ⟨1, _⟩ => rfl
      | ⟨2, _⟩ => rfl

variable {F : FTy → Type} [FloatOps F] [Named F]

variable (m : (ℓ : Loc nD τ sig) → Buf (Elt F) ℓ)

set_option maxHeartbeats 2000000 in
theorem V_v51 (c : Dev nD) : V m c main_v51 = shapeCast S30720x600 (stk (transpose S40x754x40 [1, 2, 0] (truncf .bf16 (A m c main_arg6 : Vec F S40x40x754 .f32) bitsLt_bf16_f32) transposes_S40x40x754_S40x754x40_1_2_0) (sitofp .bf16 (constantI S_ 32 0#32))) shapeCasts_S40x768x40x15_S30720x600 := by
  unfold V V0
  simp only [List.flatten_cons, List.flatten_nil, List.append_nil, after_append]
  after_results_simp
  unfold stk
  refine congrArg (fun y => shapeCast S30720x600 y _) (concatenate_congr _ _ ?_ _ _)
  repeat' first | rfl | refine congr (congrArg List.cons (congrArg (Sigma.mk _) ?_)) ?_
  all_goals after_results_simp

set_option maxHeartbeats 2000000 in
theorem V_v85 (c : Dev nD) : V m c main_v85 = shapeCast S30720x600 (stk (transpose S40x754x40 [1, 2, 0] (truncf .bf16 (A m c main_arg8 : Vec F S40x40x754 .f32) bitsLt_bf16_f32) transposes_S40x40x754_S40x754x40_1_2_0) (sitofp .bf16 (constantI S_ 32 0#32))) shapeCasts_S40x768x40x15_S30720x600 := by
  unfold V V0
  simp only [List.flatten_cons, List.flatten_nil, List.append_nil, after_append]
  after_results_simp
  unfold stk
  refine congrArg (fun y => shapeCast S30720x600 y _) (concatenate_congr _ _ ?_ _ _)
  repeat' first | rfl | refine congr (congrArg List.cons (congrArg (Sigma.mk _) ?_)) ?_
  all_goals after_results_simp

end Cert.KernelIdeal.Host
end
-- ==== Proof.KI.Pay.lean ====
module

public import proofs.«01_k».proof.Proof.KI.Att
public import proofs.«01_k».proof.Proof.KI.Toep
public import Idealize.ShloMosaic.Lib.Pointwise
public import Idealize.ShloMosaic.Lib.MatmulPlain

@[expose] public section

set_option maxRecDepth 16384

noncomputable section

namespace Cert.KernelIdeal.Att

open Idealize.ShloMosaic Idealize.ShloMosaic.TcCoe Idealize.ShloMosaic.Tactic
open Cert.KernelIdeal.Gen

/-- One sixth, as an extended real. -/
abbrev six : EReal := ((6⁻¹ : ℝ) : EReal)

theorem sixth : (Named.named κ "sixth" 0x3E2AAAAB#32 : Ideal .f32) = six := IdealRules.named_const.ideal_named_scalar _ _ _ _ rfl

theorem pay5_apply (v1 : Vec Ideal S8x128 .f32) (v6 : Vec Ideal S128x8x768 .f32) (v12 : Vec Ideal S6144x600 .bf16) (r : Fin 128) (q : Fin 600) :
    k0_pay5 (F := Ideal) v1 v6 v12 (ix2 r q) = ∑ x : Fin 6144, (v6 (ix3 r (⟨x.val / 768, by omega⟩ : Fin 8) (⟨x.val % 768, by omega⟩ : Fin 768))
      * (v1 (ix2 (⟨x.val / 768, by omega⟩ : Fin 8) r) * six)) * v12 (ix2 x q) := by
  unfold k0_pay5
  pointwise
  rw [sixth]

theorem pay1_apply (v1 : Vec Ideal S8x128 .f32) (v6 : Vec Ideal S128x8x768 .f32) (v12 : Vec Ideal S6144x600 .bf16) (r : Fin 128) (q : Fin 600) :
    k0_pay1 (F := Ideal) (k0_pay8 v1 v6) (k0_pay9 v12) (ix2 r q) = ∑ x : Fin 6144, (v6 (ix3 r (⟨x.val / 768, by omega⟩ : Fin 8) (⟨x.val % 768, by omega⟩ : Fin 768))
      * (v1 (ix2 (⟨x.val / 768, by omega⟩ : Fin 8) r) * six)) * v12 (ix2 x q) := by
  unfold k0_pay1 k0_pay8 k0_pay9
  pointwise
  rw [sixth]

theorem pay6_apply (v1 : Vec Ideal S8x128 .f32) (v6 : Vec Ideal S128x8x768 .f32) (v12 : Vec Ideal S6144x600 .bf16) (r : Fin 128) (q : Fin 600) :
    k0_pay6 (F := Ideal) v1 v6 v12 (ix2 r q) = k0_pay5 (F := Ideal) v1 v6 v12 (ix2 r q) := by
  unfold k0_pay6; pointwise

theorem pay7_apply (v1 : Vec Ideal S8x128 .f32) (v6 : Vec Ideal S128x8x768 .f32) (v12 : Vec Ideal S6144x600 .bf16) (a : Vec Ideal S128x600 .f32) (r : Fin 128) (q : Fin 600) :
    k0_pay7 (F := Ideal) v1 v6 v12 a (ix2 r q) = a (ix2 r q) + k0_pay5 (F := Ideal) v1 v6 v12 (ix2 r q) := by
  unfold k0_pay7; pointwise

theorem pay2_apply (v1 : Vec Ideal S128x6144 .bf16) (v3 : Vec Ideal S6144x600 .bf16) (r : Fin 128) (q : Fin 600) :
    k0_pay2 (F := Ideal) v1 v3 (ix2 r q) = k0_pay1 (F := Ideal) v1 v3 (ix2 r q) := by
  unfold k0_pay2; pointwise

theorem pay3_apply (v1 : Vec Ideal S128x6144 .bf16) (v3 : Vec Ideal S6144x600 .bf16) (a : Vec Ideal S128x600 .f32) (r : Fin 128) (q : Fin 600) :
    k0_pay3 (F := Ideal) v1 v3 a (ix2 r q) = a (ix2 r q) + k0_pay1 (F := Ideal) v1 v3 (ix2 r q) := by
  unfold k0_pay3; pointwise

theorem pay4_apply (aU : Vec Ideal S128x600 .f32) (bU : Vec Ideal S1x600 .f32) (aI : Vec Ideal S128x600 .f32) (bI : Vec Ideal S1x600 .f32)
    (u i : Vec Ideal S128x1 .f32) (mu : Vec Ideal S1x1 .f32) (r : Fin 128) :
    k0_pay4 (F := Ideal) aU bU aI bI u i mu (ix2 r (0 : Fin 1))
      = (∑ q : Fin 600, max (aU (ix2 r q) + bU (ix2 (0 : Fin 1) q)) 0 * max (aI (ix2 r q) + bI (ix2 (0 : Fin 1) q)) 0) + u (ix2 r (0 : Fin 1)) + i (ix2 r (0 : Fin 1)) + mu (ix2 (0 : Fin 1) (0 : Fin 1)) := by
  unfold k0_pay4
  pointwise

end Cert.KernelIdeal.Att
end
-- ==== Proof.KI.Blocks.lean ====
module

public import proofs.«01_k».proof.Proof.KI.Att
public import proofs.«01_k».proof.Proof.KI.Toep
public import Idealize.ShloMosaic.Lib.Pointwise
public import Idealize.ShloMosaic.Lib.MatmulPlain

@[expose] public section

set_option maxRecDepth 16384

noncomputable section

namespace Cert.KernelIdeal.Att

open Idealize.ShloMosaic Idealize.ShloMosaic.TcCoe Idealize.ShloMosaic.Tactic
open Cert.KernelIdeal.Gen

variable {F : FTy → Type} [FloatOps F] [Named F]

variable (m : (ℓ : Loc nD τ sig) → Buf (Elt F) ℓ)

theorem at0 : ∀ (k : Fin 5) (b : Fin 2), win0_0.index (pt k.val b) 0 = b.val ∧ win0_0.index (pt k.val b) 1 = k.val ∧ win0_0.index (pt k.val b) 2 = 0 := by decide +kernel

theorem iblk0 (c : Dev nD) (k : Fin 5) (b : Fin 2) (x : Fin 128) (y : Fin 8) (z : Fin 768) :
    iblk m c 0 (pt k.val b) (ix3 x y z) = V m c main_arg2 (ix3 (⟨128 * b.val + x.val, by have := k.isLt; have := b.isLt; omega⟩ : Fin 256) (⟨8 * k.val + y.val, by have := k.isLt; have := b.isLt; omega⟩ : Fin 40) z) := by
  obtain ⟨e0, e1, e2⟩ := at0 k b
  unfold iblk
  rw [View.read_apply]
  show V m c main_arg2 _ = V m c main_arg2 _
  congr 1
  funext a
  apply Fin.ext
  match a with
  | ⟨0, _⟩ => show win0_0.index (pt k.val b) 0 * 128 + 1 * x.val = 128 * b.val + x.val; rw [e0]; omega
  | ⟨1, _⟩ => show win0_0.index (pt k.val b) 1 * 8 + 1 * y.val = 8 * k.val + y.val; rw [e1]; omega
  | ⟨2, _⟩ => show win0_0.index (pt k.val b) 2 * 768 + 1 * z.val = z.val; rw [e2]; omega

theorem at1 : ∀ (k : Fin 5) (b : Fin 2), win0_1.index (pt k.val b) 0 = b.val ∧ win0_1.index (pt k.val b) 1 = k.val ∧ win0_1.index (pt k.val b) 2 = 0 := by decide +kernel

theorem iblk1 (c : Dev nD) (k : Fin 5) (b : Fin 2) (x : Fin 128) (y : Fin 8) (z : Fin 768) :
    iblk m c 1 (pt k.val b) (ix3 x y z) = V m c main_arg4 (ix3 (⟨128 * b.val + x.val, by have := k.isLt; have := b.isLt; omega⟩ : Fin 256) (⟨8 * k.val + y.val, by have := k.isLt; have := b.isLt; omega⟩ : Fin 40) z) := by
  obtain ⟨e0, e1, e2⟩ := at1 k b
  unfold iblk
  rw [View.read_apply]
  show V m c main_arg4 _ = V m c main_arg4 _
  congr 1
  funext a
  apply Fin.ext
  match a with
  | ⟨0, _⟩ => show win0_1.index (pt k.val b) 0 * 128 + 1 * x.val = 128 * b.val + x.val; rw [e0]; omega
  | ⟨1, _⟩ => show win0_1.index (pt k.val b) 1 * 8 + 1 * y.val = 8 * k.val + y.val; rw [e1]; omega
  | ⟨2, _⟩ => show win0_1.index (pt k.val b) 2 * 768 + 1 * z.val = z.val; rw [e2]; omega

theorem at2 : ∀ (k : Fin 5) (b : Fin 2), win0_2.index (pt k.val b) 0 = k.val ∧ win0_2.index (pt k.val b) 1 = 0 := by decide +kernel

theorem iblk2 (c : Dev nD) (k : Fin 5) (b : Fin 2) (x : Fin 6144) (y : Fin 600) :
    iblk m c 2 (pt k.val b) (ix2 x y) = V m c main_v51 (ix2 (⟨6144 * k.val + x.val, by have := k.isLt; have := b.isLt; omega⟩ : Fin 30720) y) := by
  obtain ⟨e0, e1⟩ := at2 k b
  unfold iblk
  rw [View.read_apply]
  show V m c main_v51 _ = V m c main_v51 _
  congr 1
  funext a
  apply Fin.ext
  match a with
  | ⟨0, _⟩ => show win0_2.index (pt k.val b) 0 * 6144 + 1 * x.val = 6144 * k.val + x.val; rw [e0]; omega
  | ⟨1, _⟩ => show win0_2.index (pt k.val b) 1 * 600 + 1 * y.val = y.val; rw [e1]; omega

theorem at3 : ∀ (k : Fin 5) (b : Fin 2), win0_3.index (pt k.val b) 0 = k.val ∧ win0_3.index (pt k.val b) 1 = 0 := by decide +kernel

theorem iblk3 (c : Dev nD) (k : Fin 5) (b : Fin 2) (x : Fin 6144) (y : Fin 600) :
    iblk m c 3 (pt k.val b) (ix2 x y) = V m c main_v85 (ix2 (⟨6144 * k.val + x.val, by have := k.isLt; have := b.isLt; omega⟩ : Fin 30720) y) := by
  obtain ⟨e0, e1⟩ := at3 k b
  unfold iblk
  rw [View.read_apply]
  show V m c main_v85 _ = V m c main_v85 _
  congr 1
  funext a
  apply Fin.ext
  match a with
  | ⟨0, _⟩ => show win0_3.index (pt k.val b) 0 * 6144 + 1 * x.val = 6144 * k.val + x.val; rw [e0]; omega
  | ⟨1, _⟩ => show win0_3.index (pt k.val b) 1 * 600 + 1 * y.val = y.val; rw [e1]; omega

theorem at4 : ∀ (k : Fin 5) (b : Fin 2), win0_4.index (pt k.val b) 0 = k.val ∧ win0_4.index (pt k.val b) 1 = b.val := by decide +kernel

theorem iblk4 (c : Dev nD) (k : Fin 5) (b : Fin 2) (x : Fin 8) (y : Fin 128) :
    iblk m c 4 (pt k.val b) (ix2 x y) = V m c main_v8 (ix2 (⟨8 * k.val + x.val, by have := k.isLt; have := b.isLt; omega⟩ : Fin 40) (⟨128 * b.val + y.val, by have := k.isLt; have := b.isLt; omega⟩ : Fin 256)) := by
  obtain ⟨e0, e1⟩ := at4 k b
  unfold iblk
  rw [View.read_apply]
  show V m c main_v8 _ = V m c main_v8 _
  congr 1
  funext a
  apply Fin.ext
  match a with
  | ⟨0, _⟩ => show win0_4.index (pt k.val b) 0 * 8 + 1 * x.val = 8 * k.val + x.val; rw [e0]; omega
  | ⟨1, _⟩ => show win0_4.index (pt k.val b) 1 * 128 + 1 * y.val = 128 * b.val + y.val; rw [e1]; omega

theorem at5 : ∀ (k : Fin 5) (b : Fin 2), win0_5.index (pt k.val b) 0 = k.val ∧ win0_5.index (pt k.val b) 1 = b.val := by decide +kernel

theorem iblk5 (c : Dev nD) (k : Fin 5) (b : Fin 2) (x : Fin 8) (y : Fin 128) :
    iblk m c 5 (pt k.val b) (ix2 x y) = V m c main_v17 (ix2 (⟨8 * k.val + x.val, by have := k.isLt; have := b.isLt; omega⟩ : Fin 40) (⟨128 * b.val + y.val, by have := k.isLt; have := b.isLt; omega⟩ : Fin 256)) := by
  obtain ⟨e0, e1⟩ := at5 k b
  unfold iblk
  rw [View.read_apply]
  show V m c main_v17 _ = V m c main_v17 _
  congr 1
  funext a
  apply Fin.ext
  match a with
  | ⟨0, _⟩ => show win0_5.index (pt k.val b) 0 * 8 + 1 * x.val = 8 * k.val + x.val; rw [e0]; omega
  | ⟨1, _⟩ => show win0_5.index (pt k.val b) 1 * 128 + 1 * y.val = 128 * b.val + y.val; rw [e1]; omega

theorem at6 : ∀ (k : Fin 5) (b : Fin 2), win0_6.index (pt k.val b) 0 = 0 ∧ win0_6.index (pt k.val b) 1 = 0 := by decide +kernel

theorem iblk6 (c : Dev nD) (k : Fin 5) (b : Fin 2) (x : Fin 1) (y : Fin 600) :
    iblk m c 6 (pt k.val b) (ix2 x y) = V m c main_v88 (ix2 x y) := by
  obtain ⟨e0, e1⟩ := at6 k b
  unfold iblk
  rw [View.read_apply]
  show V m c main_v88 _ = V m c main_v88 _
  congr 1
  funext a
  apply Fin.ext
  match a with
  | ⟨0, _⟩ => show win0_6.index (pt k.val b) 0 * 1 + 1 * x.val = x.val; rw [e0]; omega
  | ⟨1, _⟩ => show win0_6.index (pt k.val b) 1 * 600 + 1 * y.val = y.val; rw [e1]; omega

theorem at7 : ∀ (k : Fin 5) (b : Fin 2), win0_7.index (pt k.val b) 0 = 0 ∧ win0_7.index (pt k.val b) 1 = 0 := by decide +kernel

theorem iblk7 (c : Dev nD) (k : Fin 5) (b : Fin 2) (x : Fin 1) (y : Fin 600) :
    iblk m c 7 (pt k.val b) (ix2 x y) = V m c main_v91 (ix2 x y) := by
  obtain ⟨e0, e1⟩ := at7 k b
  unfold iblk
  rw [View.read_apply]
  show V m c main_v91 _ = V m c main_v91 _
  congr 1
  funext a
  apply Fin.ext
  match a with
  | ⟨0, _⟩ => show win0_7.index (pt k.val b) 0 * 1 + 1 * x.val = x.val; rw [e0]; omega
  | ⟨1, _⟩ => show win0_7.index (pt k.val b) 1 * 600 + 1 * y.val = y.val; rw [e1]; omega

theorem at8 : ∀ (k : Fin 5) (b : Fin 2), win0_8.index (pt k.val b) 0 = 0 ∧ win0_8.index (pt k.val b) 1 = 0 := by decide +kernel

theorem iblk8 (c : Dev nD) (k : Fin 5) (b : Fin 2) (x : Fin 256) (y : Fin 1) :
    iblk m c 8 (pt k.val b) (ix2 x y) = V m c main_v98 (ix2 x y) := by
  obtain ⟨e0, e1⟩ := at8 k b
  unfold iblk
  rw [View.read_apply]
  show V m c main_v98 _ = V m c main_v98 _
  congr 1
  funext a
  apply Fin.ext
  match a with
  | ⟨0, _⟩ => show win0_8.index (pt k.val b) 0 * 256 + 1 * x.val = x.val; rw [e0]; omega
  | ⟨1, _⟩ => show win0_8.index (pt k.val b) 1 * 1 + 1 * y.val = y.val; rw [e1]; omega

theorem at9 : ∀ (k : Fin 5) (b : Fin 2), win0_9.index (pt k.val b) 0 = 0 ∧ win0_9.index (pt k.val b) 1 = 0 := by decide +kernel

theorem iblk9 (c : Dev nD) (k : Fin 5) (b : Fin 2) (x : Fin 256) (y : Fin 1) :
    iblk m c 9 (pt k.val b) (ix2 x y) = V m c main_v105 (ix2 x y) := by
  obtain ⟨e0, e1⟩ := at9 k b
  unfold iblk
  rw [View.read_apply]
  show V m c main_v105 _ = V m c main_v105 _
  congr 1
  funext a
  apply Fin.ext
  match a with
  | ⟨0, _⟩ => show win0_9.index (pt k.val b) 0 * 256 + 1 * x.val = x.val; rw [e0]; omega
  | ⟨1, _⟩ => show win0_9.index (pt k.val b) 1 * 1 + 1 * y.val = y.val; rw [e1]; omega

theorem at10 : ∀ (k : Fin 5) (b : Fin 2), win0_10.index (pt k.val b) 0 = 0 ∧ win0_10.index (pt k.val b) 1 = 0 := by decide +kernel

theorem iblk10 (c : Dev nD) (k : Fin 5) (b : Fin 2) (x : Fin 1) (y : Fin 1) :
    iblk m c 10 (pt k.val b) (ix2 x y) = V m c main_v106 (ix2 x y) := by
  obtain ⟨e0, e1⟩ := at10 k b
  unfold iblk
  rw [View.read_apply]
  show V m c main_v106 _ = V m c main_v106 _
  congr 1
  funext a
  apply Fin.ext
  match a with
  | ⟨0, _⟩ => show win0_10.index (pt k.val b) 0 * 1 + 1 * x.val = x.val; rw [e0]; omega
  | ⟨1, _⟩ => show win0_10.index (pt k.val b) 1 * 1 + 1 * y.val = y.val; rw [e1]; omega

end Cert.KernelIdeal.Att
end
-- ==== Proof.L.Math.lean ====
module

public import Idealize.ShloMosaic.Lib.Pointwise

@[expose] public section

noncomputable section

namespace Cert.Math

open Finset

/-- A sum over `n * m` terms, as `n` sums of `m`. -/
theorem sum_split {M : Type*} [AddCommMonoid M] (n m N : ℕ) (hN : N = n * m) (hm : 0 < m) (f : Fin n → Fin m → M) :
    ∑ x : Fin N, f ⟨x.val / m, Nat.div_lt_of_lt_mul (by have := x.isLt; rw [Nat.mul_comm]; omega)⟩ ⟨x.val % m, Nat.mod_lt _ hm⟩
      = ∑ a : Fin n, ∑ b : Fin m, f a b := by
  subst hN
  rw [← Fintype.sum_prod_type']
  refine Fintype.sum_equiv finProdFinEquiv.symm _ _ fun x => ?_
  rfl

/-- The five blocks of eight channels, as forty channels. -/
theorem sum_blocks {M : Type*} [AddCommMonoid M] (f : Fin 40 → Fin 768 → M) :
    ∑ k : Fin 5, ∑ x : Fin 6144, f ⟨8 * k.val + x.val / 768, by omega⟩ ⟨x.val % 768, by omega⟩ = ∑ C : Fin 40, ∑ p : Fin 768, f C p := by
  have h1 : ∀ k : Fin 5, ∑ x : Fin 6144, f ⟨8 * k.val + x.val / 768, by omega⟩ ⟨x.val % 768, by omega⟩
      = ∑ a : Fin 8, ∑ p : Fin 768, f ⟨8 * k.val + a.val, by omega⟩ p := fun k =>
    sum_split 8 768 6144 rfl (by norm_num) (fun a p => f ⟨8 * k.val + a.val, by omega⟩ p)
  rw [Finset.sum_congr rfl fun k _ => h1 k]
  rw [← sum_split 5 8 40 rfl (by norm_num) (fun (k : Fin 5) (a : Fin 8) => ∑ p : Fin 768, f ⟨8 * k.val + a.val, by omega⟩ p)]
  refine Finset.sum_congr rfl fun C _ => Finset.sum_congr rfl fun p _ => ?_
  refine congrArg (fun z => f z p) (Fin.ext ?_)
  show 8 * (C.val / 8) + C.val % 8 = C.val
  omega

/-- A sum against weights shifted by `h` and padded with zeros is the sum over the window that starts at `h`. -/
theorem sum_window (h : Fin 15) (f : Fin 768 → EReal) (W : Fin 754 → EReal) :
    ∑ p : Fin 768, f p * (if hh : h.val ≤ p.val ∧ p.val < h.val + 754 then W ⟨p.val - h.val, by omega⟩ else 0)
      = ∑ j : Fin 754, W j * f ⟨h.val + j.val, by omega⟩ := by
  refine (Finset.sum_of_injOn (fun j : Fin 754 => (⟨h.val + j.val, by omega⟩ : Fin 768)) ?_ ?_ ?_ ?_).symm
  · intro a _ b _ hab
    have := congrArg Fin.val hab
    exact Fin.ext (by simp only at this; omega)
  · intro a _; exact Finset.mem_coe.2 (Finset.mem_univ _)
  · intro p _ hp
    rw [dif_neg, mul_zero]
    intro hh
    refine hp ⟨⟨p.val - h.val, by omega⟩, Finset.mem_coe.2 (Finset.mem_univ _), Fin.ext ?_⟩
    show h.val + (p.val - h.val) = p.val
    omega
  · intro j _
    rw [dif_pos (show h.val ≤ h.val + j.val ∧ h.val + j.val < h.val + 754 by omega), mul_comm]
    refine congrArg (fun z => f _ * W z) (Fin.ext ?_)
    show j.val = h.val + j.val - h.val
    omega

/-- The kernel's order and the reference's order of a weighted review agree on finite values. -/
theorem weigh (r : EReal) (p s : Fin 6 → EReal) (hr : ∃ a : ℝ, r = a) (hp : ∀ k, ∃ a : ℝ, p k = a) (hs : ∀ k, ∃ a : ℝ, s k = a) :
    r * ((∑ k, p k * s k) * ((6⁻¹ : ℝ) : EReal)) = (∑ k, r * (s k * p k)) * ((1 / 6 : ℝ) : EReal) := by
  obtain ⟨r, rfl⟩ := hr
  choose p' hp using hp
  choose s' hs using hs
  simp only [hp, hs, Fin.sum_univ_six, ← EReal.coe_mul, ← EReal.coe_add]
  congr 1
  ring

end Cert.Math
end
-- ==== Proof.KI.Value.lean ====
module

public import proofs.«01_k».proof.Proof.KI.Pay
public import proofs.«01_k».proof.Proof.KI.Blocks
public import proofs.«01_k».proof.Proof.L.Math
public import proofs.«01_k».proof.Proof.KI.Toep
public import Idealize.ShloMosaic.Lib.Pointwise
public import Idealize.ShloMosaic.Lib.MatmulPlain

@[expose] public section

set_option maxRecDepth 16384

noncomputable section

namespace Cert.KernelIdeal.Att

open Idealize.ShloMosaic Idealize.ShloMosaic.TcCoe Idealize.ShloMosaic.Tactic
open Cert.KernelIdeal.Gen Cert.KernelIdeal.Host

variable (m : (ℓ : Loc nD τ sig) → Buf (Elt Ideal) ℓ)

/-- A buffer as the region finds it, its elements as extended reals. -/
abbrev RU (c : Dev nD) : S256x40x768.Idx → EReal := V m c main_arg2

/-- A buffer as the region finds it, its elements as extended reals. -/
abbrev WU (c : Dev nD) : S40x256.Idx → EReal := V m c main_v8

/-- A buffer as the region finds it, its elements as extended reals. -/
abbrev TU (c : Dev nD) : S30720x600.Idx → EReal := V m c main_v51

/-- A buffer as the region finds it, its elements as extended reals. -/
abbrev RI (c : Dev nD) : S256x40x768.Idx → EReal := V m c main_arg4

/-- A buffer as the region finds it, its elements as extended reals. -/
abbrev WI (c : Dev nD) : S40x256.Idx → EReal := V m c main_v17

/-- A buffer as the region finds it, its elements as extended reals. -/
abbrev TI (c : Dev nD) : S30720x600.Idx → EReal := V m c main_v85

/-- One channel's term of the product at one position. -/
def termU (c : Dev nD) (b : Fin 2) (r : Fin 128) (q : Fin 600) (C : Fin 40) (p : Fin 768) : EReal :=
  (RU m c (ix3 (⟨128 * b.val + r.val, by omega⟩ : Fin 256) C p)
      * (WU m c (ix2 C (⟨128 * b.val + r.val, by omega⟩ : Fin 256)) * six))
    * TU m c (ix2 (⟨768 * C.val + p.val, by omega⟩ : Fin 30720) q)

theorem blockU (c : Dev nD) (k : Fin 5) (b : Fin 2) (r : Fin 128) (q : Fin 600) :
    k0_pay5 (F := Ideal) (iblk m c 4 (pt k.val b)) (iblk m c 0 (pt k.val b)) (iblk m c 2 (pt k.val b)) (ix2 r q)
      = ∑ x : Fin 6144, termU m c b r q ⟨8 * k.val + x.val / 768, by omega⟩ ⟨x.val % 768, by omega⟩ := by
  rw [pay5_apply]
  refine Finset.sum_congr rfl fun x _ => ?_
  rw [iblk4, iblk0, iblk2]
  have e : (⟨6144 * k.val + x.val, by omega⟩ : Fin 30720) = ⟨768 * (8 * k.val + x.val / 768) + x.val % 768, by omega⟩ := Fin.ext (by show 6144 * k.val + x.val = 768 * (8 * k.val + x.val / 768) + x.val % 768; omega)
  unfold termU
  rw [e]
  try rfl

theorem accU_zero (c : Dev nD) (b : Fin 2) (r : Fin 128) (q : Fin 600) : accU m c b 0 (ix2 r q) = k0_pay5 (F := Ideal) (iblk m c 4 (pt 0 b)) (iblk m c 0 (pt 0 b)) (iblk m c 2 (pt 0 b)) (ix2 r q) := pay6_apply _ _ _ r q

theorem accU_succ (c : Dev nD) (b : Fin 2) (k : ℕ) (r : Fin 128) (q : Fin 600) :
    accU m c b (k + 1) (ix2 r q) = accU m c b k (ix2 r q) + k0_pay5 (F := Ideal) (iblk m c 4 (pt (k + 1) b)) (iblk m c 0 (pt (k + 1) b)) (iblk m c 2 (pt (k + 1) b)) (ix2 r q) := pay7_apply _ _ _ _ r q

theorem accU_four (c : Dev nD) (b : Fin 2) (r : Fin 128) (q : Fin 600) :
    accU m c b 4 (ix2 r q) = ∑ C : Fin 40, ∑ p : Fin 768, termU m c b r q C p := by
  rw [← Cert.Math.sum_blocks (termU m c b r q), Fin.sum_univ_five]
  rw [accU_succ, accU_succ, accU_succ, accU_succ, accU_zero]
  rw [← blockU m c 0 b r q, ← blockU m c 1 b r q, ← blockU m c 2 b r q, ← blockU m c 3 b r q, ← blockU m c 4 b r q]
  rfl

/-- One channel's term of the product at one position. -/
def termI (c : Dev nD) (b : Fin 2) (r : Fin 128) (q : Fin 600) (C : Fin 40) (p : Fin 768) : EReal :=
  (RI m c (ix3 (⟨128 * b.val + r.val, by omega⟩ : Fin 256) C p)
      * (WI m c (ix2 C (⟨128 * b.val + r.val, by omega⟩ : Fin 256)) * six))
    * TI m c (ix2 (⟨768 * C.val + p.val, by omega⟩ : Fin 30720) q)

theorem blockI (c : Dev nD) (k : Fin 5) (b : Fin 2) (r : Fin 128) (q : Fin 600) :
    k0_pay1 (F := Ideal) (k0_pay8 (iblk m c 5 (pt k.val b)) (iblk m c 1 (pt k.val b))) (k0_pay9 (iblk m c 3 (pt k.val b))) (ix2 r q)
      = ∑ x : Fin 6144, termI m c b r q ⟨8 * k.val + x.val / 768, by omega⟩ ⟨x.val % 768, by omega⟩ := by
  rw [pay1_apply]
  refine Finset.sum_congr rfl fun x _ => ?_
  rw [iblk5, iblk1, iblk3]
  have e : (⟨6144 * k.val + x.val, by omega⟩ : Fin 30720) = ⟨768 * (8 * k.val + x.val / 768) + x.val % 768, by omega⟩ := Fin.ext (by show 6144 * k.val + x.val = 768 * (8 * k.val + x.val / 768) + x.val % 768; omega)
  unfold termI
  rw [e]
  try rfl

theorem accI_zero (c : Dev nD) (b : Fin 2) (r : Fin 128) (q : Fin 600) : accI m c b 0 (ix2 r q) = k0_pay1 (F := Ideal) (k0_pay8 (iblk m c 5 (pt 0 b)) (iblk m c 1 (pt 0 b))) (k0_pay9 (iblk m c 3 (pt 0 b))) (ix2 r q) := pay2_apply _ _ r q

theorem accI_succ (c : Dev nD) (b : Fin 2) (k : ℕ) (r : Fin 128) (q : Fin 600) :
    accI m c b (k + 1) (ix2 r q) = accI m c b k (ix2 r q) + k0_pay1 (F := Ideal) (k0_pay8 (iblk m c 5 (pt (k + 1) b)) (iblk m c 1 (pt (k + 1) b))) (k0_pay9 (iblk m c 3 (pt (k + 1) b))) (ix2 r q) := pay3_apply _ _ _ r q

theorem accI_four (c : Dev nD) (b : Fin 2) (r : Fin 128) (q : Fin 600) :
    accI m c b 4 (ix2 r q) = ∑ C : Fin 40, ∑ p : Fin 768, termI m c b r q C p := by
  rw [← Cert.Math.sum_blocks (termI m c b r q), Fin.sum_univ_five]
  rw [accI_succ, accI_succ, accI_succ, accI_succ, accI_zero]
  rw [← blockI m c 0 b r q, ← blockI m c 1 b r q, ← blockI m c 2 b r q, ← blockI m c 3 b r q, ← blockI m c 4 b r q]
  rfl

theorem toepU (c : Dev nD) (C : Fin 40) (p : Fin 768) (q : Fin 600) :
    TU m c (ix2 (⟨768 * C.val + p.val, by omega⟩ : Fin 30720) q)
      = (if hh : q.val % 15 ≤ p.val ∧ p.val < q.val % 15 + 754 then
          (A m c main_arg6 : S40x40x754.Idx → EReal) (ix3 (⟨q.val / 15, by omega⟩ : Fin 40) C (⟨p.val - q.val % 15, by omega⟩ : Fin 754)) else (0 : EReal)) := by
  show (V m c main_v51 : S30720x600.Idx → EReal) _ = _
  rw [V_v51]
  refine (shapeCast_apply _ _ _ (ix4 C p (⟨q.val / 15, by omega⟩ : Fin 40) (⟨q.val % 15, by omega⟩ : Fin 15)) ?_).trans ?_
  · rw [Shape.rowMajor_val_four, Shape.rowMajor_val_two]
    show ((C.val * 768 + p.val) * 40 + q.val / 15) * 15 + q.val % 15 = (768 * C.val + p.val) * 600 + q.val
    omega
  · rw [stk_apply]
    have ez : (sitofp (F := Ideal) .bf16 (constantI S_ 32 0#32)) (Shape.Idx.first h_S_) = (0 : EReal) := by
      pointwise
      show (((0#32 : BitVec 32).toInt : ℝ) : EReal) = 0
      simp
    rw [ez]
    split_ifs with hh
    · refine (transpose_apply _ _ _ _ _ fun a => ?_).trans rfl
      match a with
      | ⟨0, _⟩ => rfl
      | ⟨1, _⟩ => rfl
      | ⟨2, _⟩ => rfl
    · rfl

theorem toepI (c : Dev nD) (C : Fin 40) (p : Fin 768) (q : Fin 600) :
    TI m c (ix2 (⟨768 * C.val + p.val, by omega⟩ : Fin 30720) q)
      = (if hh : q.val % 15 ≤ p.val ∧ p.val < q.val % 15 + 754 then
          (A m c main_arg8 : S40x40x754.Idx → EReal) (ix3 (⟨q.val / 15, by omega⟩ : Fin 40) C (⟨p.val - q.val % 15, by omega⟩ : Fin 754)) else (0 : EReal)) := by
  show (V m c main_v85 : S30720x600.Idx → EReal) _ = _
  rw [V_v85]
  refine (shapeCast_apply _ _ _ (ix4 C p (⟨q.val / 15, by omega⟩ : Fin 40) (⟨q.val % 15, by omega⟩ : Fin 15)) ?_).trans ?_
  · rw [Shape.rowMajor_val_four, Shape.rowMajor_val_two]
    show ((C.val * 768 + p.val) * 40 + q.val / 15) * 15 + q.val % 15 = (768 * C.val + p.val) * 600 + q.val
    omega
  · rw [stk_apply]
    have ez : (sitofp (F := Ideal) .bf16 (constantI S_ 32 0#32)) (Shape.Idx.first h_S_) = (0 : EReal) := by
      pointwise
      show (((0#32 : BitVec 32).toInt : ℝ) : EReal) = 0
      simp
    rw [ez]
    split_ifs with hh
    · refine (transpose_apply _ _ _ _ _ fun a => ?_).trans rfl
      match a with
      | ⟨0, _⟩ => rfl
      | ⟨1, _⟩ => rfl
      | ⟨2, _⟩ => rfl
    · rfl

end Cert.KernelIdeal.Att
end
-- ==== Proof.KI.Result.lean ====
module

public import proofs.«01_k».proof.Proof.KI.Value
public import proofs.«01_k».proof.Proof.KI.Final
public import proofs.«01_k».proof.Proof.KI.Toep
public import Idealize.ShloMosaic.Lib.Pointwise
public import Idealize.ShloMosaic.Lib.MatmulPlain

@[expose] public section

set_option maxRecDepth 16384

noncomputable section

namespace Cert.KernelIdeal.Att

open Idealize.ShloMosaic Idealize.ShloMosaic.TcCoe Idealize.ShloMosaic.Tactic
open Cert.KernelIdeal.Gen Cert.KernelIdeal.Host

variable (m : (ℓ : Loc nD τ sig) → Buf (Elt Ideal) ℓ)

/-- The preference rows the indices pick. -/
def GU (c : Dev nD) : FVec Ideal S256x6 .f32 := Host.gather gather_S47155x6_S256x1_S256x6_1_0_n_n_0_1_16 (A m c main_arg10) (broadcastInDim S256x1 ![0] bcast_S256_S256x1_0 (select (cmpi .slt (A m c main_arg0) (broadcastInDim S256 ![] bcast_S_S256 (constantI S_ 32 0#32))) (addi (A m c main_arg0) (broadcastInDim S256 ![] bcast_S_S256 (constantI S_ 32 47155#32))) (A m c main_arg0)))

/-- The scores, one row per batch element and preference. -/
abbrev SU (c : Dev nD) : S256x6x40.Idx → EReal := A m c main_arg3

theorem WU_apply (c : Dev nD) (C : Fin 40) (i : Fin 256) :
    WU m c (ix2 C i) = ∑ k : Fin 6, (GU m c (ix2 i k) : EReal) * SU m c (ix3 i k C) := by
  show (V m c main_v8 : S40x256.Idx → EReal) _ = _
  rw [V_v8]
  show transpose S40x256 [1, 0] (Host.dotGeneral dot_S256x6_S256x6x40_S256x40_1_1_n_2_0_0 none (GU m c) _) _ _ = _
  generalize GU m c = g
  generalize hx : SU m c = x
  rw [show A m c main_arg3 = x from hx]
  pointwise

/-- The preference rows the indices pick. -/
def GI (c : Dev nD) : FVec Ideal S256x6 .f32 := Host.gather gather_S16532x6_S256x1_S256x6_1_0_n_n_0_1_16 (A m c main_arg11) (broadcastInDim S256x1 ![0] bcast_S256_S256x1_0 (select (cmpi .slt (A m c main_arg1) (broadcastInDim S256 ![] bcast_S_S256 (constantI S_ 32 0#32))) (addi (A m c main_arg1) (broadcastInDim S256 ![] bcast_S_S256 (constantI S_ 32 16532#32))) (A m c main_arg1)))

/-- The scores, one row per batch element and preference. -/
abbrev SI (c : Dev nD) : S256x6x40.Idx → EReal := A m c main_arg5

theorem WI_apply (c : Dev nD) (C : Fin 40) (i : Fin 256) :
    WI m c (ix2 C i) = ∑ k : Fin 6, (GI m c (ix2 i k) : EReal) * SI m c (ix3 i k C) := by
  show (V m c main_v17 : S40x256.Idx → EReal) _ = _
  rw [V_v17]
  show transpose S40x256 [1, 0] (Host.dotGeneral dot_S256x6_S256x6x40_S256x40_1_1_n_2_0_0 none (GI m c) _) _ _ = _
  generalize GI m c = g
  generalize hx : SI m c = x
  rw [show A m c main_arg5 = x from hx]
  pointwise

/-- The bias row. -/
abbrev BU (c : Dev nD) : S1x600.Idx → EReal := V m c main_v88

/-- The bias. -/
abbrev bU (c : Dev nD) : S40.Idx → EReal := A m c main_arg7

theorem BU_apply (c : Dev nD) (q : Fin 600) : BU m c (ix2 (0 : Fin 1) q) = bU m c (ix1 (⟨q.val / 15, by omega⟩ : Fin 40)) := by
  show (V m c main_v88 : S1x600.Idx → EReal) _ = _
  rw [V_v88]
  generalize hx : bU m c = x
  rw [show A m c main_arg7 = x from hx]
  pointwise

/-- The convolution weights. -/
abbrev KU (c : Dev nD) : S40x40x754.Idx → EReal := A m c main_arg6

/-- The tower of batch element `i`, at a feature. -/
def towU (c : Dev nD) (i : Fin 256) (q : Fin 600) : EReal :=
  max ((∑ C : Fin 40, ∑ j : Fin 754, KU m c (ix3 (⟨q.val / 15, by omega⟩ : Fin 40) C j)
      * (RU m c (ix3 i C (⟨q.val % 15 + j.val, by omega⟩ : Fin 768)) * (WU m c (ix2 C i) * six))) + bU m c (ix1 (⟨q.val / 15, by omega⟩ : Fin 40))) 0

theorem towU_eq (c : Dev nD) (b : Fin 2) (r : Fin 128) (q : Fin 600) :
    max (accU m c b 4 (ix2 r q) + BU m c (ix2 (0 : Fin 1) q)) 0 = towU m c (⟨128 * b.val + r.val, by omega⟩ : Fin 256) q := by
  unfold towU
  rw [accU_four, BU_apply]
  refine congrArg (fun z => max (z + _) 0) (Finset.sum_congr rfl fun C _ => ?_)
  refine (Finset.sum_congr rfl fun p _ => congrArg (fun z : EReal => (RU m c (ix3 (⟨128 * b.val + r.val, by omega⟩ : Fin 256) C p) * (WU m c (ix2 C (⟨128 * b.val + r.val, by omega⟩ : Fin 256)) * six)) * z) (toepU m c C p q)).trans ?_
  exact Cert.Math.sum_window (⟨q.val % 15, by omega⟩ : Fin 15) (fun p => RU m c (ix3 (⟨128 * b.val + r.val, by omega⟩ : Fin 256) C p) * (WU m c (ix2 C (⟨128 * b.val + r.val, by omega⟩ : Fin 256)) * six))
    (fun j => KU m c (ix3 (⟨q.val / 15, by omega⟩ : Fin 40) C j))

/-- The bias row. -/
abbrev BI (c : Dev nD) : S1x600.Idx → EReal := V m c main_v91

/-- The bias. -/
abbrev bI (c : Dev nD) : S40.Idx → EReal := A m c main_arg9

theorem BI_apply (c : Dev nD) (q : Fin 600) : BI m c (ix2 (0 : Fin 1) q) = bI m c (ix1 (⟨q.val / 15, by omega⟩ : Fin 40)) := by
  show (V m c main_v91 : S1x600.Idx → EReal) _ = _
  rw [V_v91]
  generalize hx : bI m c = x
  rw [show A m c main_arg9 = x from hx]
  pointwise

/-- The convolution weights. -/
abbrev KI (c : Dev nD) : S40x40x754.Idx → EReal := A m c main_arg8

/-- The tower of batch element `i`, at a feature. -/
def towI (c : Dev nD) (i : Fin 256) (q : Fin 600) : EReal :=
  max ((∑ C : Fin 40, ∑ j : Fin 754, KI m c (ix3 (⟨q.val / 15, by omega⟩ : Fin 40) C j)
      * (RI m c (ix3 i C (⟨q.val % 15 + j.val, by omega⟩ : Fin 768)) * (WI m c (ix2 C i) * six))) + bI m c (ix1 (⟨q.val / 15, by omega⟩ : Fin 40))) 0

theorem towI_eq (c : Dev nD) (b : Fin 2) (r : Fin 128) (q : Fin 600) :
    max (accI m c b 4 (ix2 r q) + BI m c (ix2 (0 : Fin 1) q)) 0 = towI m c (⟨128 * b.val + r.val, by omega⟩ : Fin 256) q := by
  unfold towI
  rw [accI_four, BI_apply]
  refine congrArg (fun z => max (z + _) 0) (Finset.sum_congr rfl fun C _ => ?_)
  refine (Finset.sum_congr rfl fun p _ => congrArg (fun z : EReal => (RI m c (ix3 (⟨128 * b.val + r.val, by omega⟩ : Fin 256) C p) * (WI m c (ix2 C (⟨128 * b.val + r.val, by omega⟩ : Fin 256)) * six)) * z) (toepI m c C p q)).trans ?_
  exact Cert.Math.sum_window (⟨q.val % 15, by omega⟩ : Fin 15) (fun p => RI m c (ix3 (⟨128 * b.val + r.val, by omega⟩ : Fin 256) C p) * (WI m c (ix2 C (⟨128 * b.val + r.val, by omega⟩ : Fin 256)) * six))
    (fun j => KI m c (ix3 (⟨q.val / 15, by omega⟩ : Fin 40) C j))

/-- The user's offsets. -/
def offU (c : Dev nD) : FVec Ideal S256x1 .f32 := Host.gather gather_S47155x1_S256x1_S256x1_1_0_n_n_0_1_11 (A m c main_arg12) (broadcastInDim S256x1 ![0] bcast_S256_S256x1_0 (select (cmpi .slt (A m c main_arg0) (broadcastInDim S256 ![] bcast_S_S256 (constantI S_ 32 0#32))) (addi (A m c main_arg0) (broadcastInDim S256 ![] bcast_S_S256 (constantI S_ 32 47155#32))) (A m c main_arg0)))

/-- The item's offsets. -/
def offI (c : Dev nD) : FVec Ideal S256x1 .f32 := Host.gather gather_S16532x1_S256x1_S256x1_1_0_n_n_0_1_11 (A m c main_arg13) (broadcastInDim S256x1 ![0] bcast_S256_S256x1_0 (select (cmpi .slt (A m c main_arg1) (broadcastInDim S256 ![] bcast_S_S256 (constantI S_ 32 0#32))) (addi (A m c main_arg1) (broadcastInDim S256 ![] bcast_S_S256 (constantI S_ 32 16532#32))) (A m c main_arg1)))

/-- The common offset. -/
abbrev mu (c : Dev nD) : S1.Idx → EReal := A m c main_arg14

theorem v106_apply (c : Dev nD) : (V m c main_v106 : S1x1.Idx → EReal) (ix2 (0 : Fin 1) (0 : Fin 1)) = mu m c (ix1 (0 : Fin 1)) := by
  rw [V_v106]
  generalize hx : mu m c = x
  rw [show A m c main_arg14 = x from hx]
  pointwise

theorem add_four {a a' b b' c c' d d' : EReal} (ha : a = a') (hb : b = b') (hc : c = c') (hd : d = d') : a + b + c + d = a' + b' + c' + d' := by
  subst ha hb hc hd; rfl

theorem mul_two {a a' b b' : EReal} (ha : a = a') (hb : b = b') : a * b = a' * b' := by
  subst ha hb; rfl

/-- The kernel's result, at an index. -/
theorem res_apply (c : Dev nD) (i : Fin 256) :
    (res m c : S256.Idx → EReal) (ix1 i) = (∑ q : Fin 600, towU m c i q * towI m c i q) + offU m c (ix2 i (0 : Fin 1)) + offI m c (ix2 i (0 : Fin 1)) + mu m c (ix1 (0 : Fin 1)) := by
  have hi : (⟨128 * (i.val / 128) + i.val % 128, by omega⟩ : Fin 256) = i := Fin.ext (Nat.div_add_mod _ _)
  show (outR m c (⟨i.val / 128, by omega⟩ : Fin 2) : S128x1.Idx → EReal) (ix2 (⟨i.val % 128, by omega⟩ : Fin 128) (0 : Fin 1)) = _
  unfold outR
  refine (pay4_apply _ _ _ _ _ _ _ _).trans ?_
  have e6 : ∀ q : Fin 600, iblk m c 6 (pt 4 (⟨i.val / 128, by omega⟩ : Fin 2)) (ix2 (0 : Fin 1) q) = BU m c (ix2 (0 : Fin 1) q) := fun q => iblk6 m c 4 _ 0 q
  have e7 : ∀ q : Fin 600, iblk m c 7 (pt 4 (⟨i.val / 128, by omega⟩ : Fin 2)) (ix2 (0 : Fin 1) q) = BI m c (ix2 (0 : Fin 1) q) := fun q => iblk7 m c 4 _ 0 q
  have e8 : iblk m c 8 (pt 4 (⟨i.val / 128, by omega⟩ : Fin 2)) (ix2 i (0 : Fin 1)) = offU m c (ix2 i (0 : Fin 1)) := (iblk8 m c 4 _ i 0).trans (congrFun (V_v98 m c) _)
  have e9 : iblk m c 9 (pt 4 (⟨i.val / 128, by omega⟩ : Fin 2)) (ix2 i (0 : Fin 1)) = offI m c (ix2 i (0 : Fin 1)) := (iblk9 m c 4 _ i 0).trans (congrFun (V_v105 m c) _)
  have e10 : iblk m c 10 (pt 4 (⟨i.val / 128, by omega⟩ : Fin 2)) (ix2 (0 : Fin 1) (0 : Fin 1)) = mu m c (ix1 (0 : Fin 1)) := (iblk10 m c 4 _ 0 0).trans (v106_apply m c)
  have r8 : rows (⟨i.val / 128, by omega⟩ : Fin 2) (iblk m c 8 (pt 4 (⟨i.val / 128, by omega⟩ : Fin 2))) (ix2 (⟨i.val % 128, by omega⟩ : Fin 128) (0 : Fin 1)) = offU m c (ix2 i (0 : Fin 1)) := by
    rw [← e8]; unfold rows; exact congrArg (fun z => iblk m c 8 (pt 4 (⟨i.val / 128, by omega⟩ : Fin 2)) (ix2 z (0 : Fin 1))) hi
  have r9 : rows (⟨i.val / 128, by omega⟩ : Fin 2) (iblk m c 9 (pt 4 (⟨i.val / 128, by omega⟩ : Fin 2))) (ix2 (⟨i.val % 128, by omega⟩ : Fin 128) (0 : Fin 1)) = offI m c (ix2 i (0 : Fin 1)) := by
    rw [← e9]; unfold rows; exact congrArg (fun z => iblk m c 9 (pt 4 (⟨i.val / 128, by omega⟩ : Fin 2)) (ix2 z (0 : Fin 1))) hi
  refine add_four (Finset.sum_congr rfl fun q _ => ?_) r8 r9 e10
  refine mul_two ?_ ?_
  · refine (congrArg (fun z : EReal => max (accU m c (⟨i.val / 128, by omega⟩ : Fin 2) 4 (ix2 (⟨i.val % 128, by omega⟩ : Fin 128) q) + z) 0) (e6 q)).trans ?_
    exact (towU_eq m c _ _ q).trans (congrArg (fun z => towU m c z q) hi)
  · refine (congrArg (fun z : EReal => max (accI m c (⟨i.val / 128, by omega⟩ : Fin 2) 4 (ix2 (⟨i.val % 128, by omega⟩ : Fin 128) q) + z) 0) (e7 q)).trans ?_
    exact (towI_eq m c _ _ q).trans (congrArg (fun z => towI m c z q) hi)

end Cert.KernelIdeal.Att
end
-- ==== Proof.R.Tower.lean ====
module

public import proofs.«01_k».proof.Proof.Gen.ReferenceIdeal.Read
public import Idealize.ShloMosaic.Lib.Pointwise
public import Idealize.ShloMosaic.Lib.MatmulPlain

@[expose] public section

set_option maxRecDepth 16384

noncomputable section

namespace Cert.ReferenceIdeal.Read

open Idealize.ShloMosaic Idealize.ShloMosaic.TcCoe

theorem ofBits_six : Ideal.ofBits FTy.f32 0x40C00000#32 = ((6 : ℝ) : EReal) := by
  simp [Ideal.ofBits, Ideal.ieee, BitVec.toNat_ofNat]
  rw [← EReal.coe_mul]
  norm_num

theorem dot_apply (x6 : (⟨S40x40x754, .f32⟩ : BufTy).Contents (Elt Ideal)) (w : (⟨S256x40x15x754, .f32⟩ : BufTy).Contents (Elt Ideal)) (o : Fin 40) (i : Fin 256) (h : Fin 15) :
    Host.dotGeneral (F := Ideal) (φ₁ := .f32) (φ₂ := .f32) dot_S40x40x754_S256x40x15x754_S40x256x15_12_13_0_02_n_n none x6 w (ix3 o i h)
      = ∑ C : Fin 40, ∑ j : Fin 754, (x6 (ix3 o C j) : EReal) * w (ix4 i C h j) := by
  pointwise

/-- The weighted review, at an index. -/
theorem reU_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x10 : (⟨S47155x6, .f32⟩ : BufTy).Contents (Elt Ideal)) (i : Fin 256) (C : Fin 40) (p : Fin 768) :
    val_main_v17 (F := Ideal) x0 x2 x3 x10 (ix3 i C p)
      = (∑ k : Fin 6, (x2 (ix3 i C p) : EReal) * (x3 (ix3 i k C) * val_main_v6 (F := Ideal) x0 x10 (ix2 i k))) * ((1 / 6 : ℝ) : EReal) := by
  unfold val_main_v17 val_main_v16 val_main_cst_1 val_main_v15 val_main_cst val_main_v14 val_main_v13 val_main_v12 val_main_v11 val_main_v10 val_main_v9 val_main_v8 val_main_v7
  pointwise
  rw [ofBits_six, Ideal.div_coe (by norm_num)]

set_option maxHeartbeats 2000000 in
theorem winU_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x10 : (⟨S47155x6, .f32⟩ : BufTy).Contents (Elt Ideal)) (i : Fin 256) (C : Fin 40) (h : Fin 15) (j : Fin 754) :
    val_main_v48 (F := Ideal) x0 x2 x3 x10 (ix4 i C h j) = val_main_v17 (F := Ideal) x0 x2 x3 x10 (ix3 i C (⟨h.val + j.val, by omega⟩ : Fin 768)) := by
  unfold val_main_v48
  match h with
  | ⟨0, _⟩ =>
    refine Eq.trans (concatenate_apply_piece (t := S256x40x15x754) 2 _ _ _ 0 ?_ S256x40x1x754 (val_main_v33 (F := Ideal) x0 x2 x3 x10) ?_ rfl 0 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v33_apply, val_main_v18_apply]
      generalize val_main_v17 (F := Ideal) x0 x2 x3 x10 = y
      refine congrArg y (funext fun a => Fin.ext ?_)
      match a with
      | ⟨0, _⟩ => rfl
      | ⟨1, _⟩ => rfl
      | ⟨2, _⟩ => show j.val = 0 + j.val; omega
  | ⟨1, _⟩ =>
    refine Eq.trans (concatenate_apply_piece (t := S256x40x15x754) 2 _ _ _ 1 ?_ S256x40x1x754 (val_main_v34 (F := Ideal) x0 x2 x3 x10) ?_ rfl 1 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v34_apply, val_main_v19_apply]
      generalize val_main_v17 (F := Ideal) x0 x2 x3 x10 = y
      refine congrArg y (funext fun a => Fin.ext ?_)
      match a with
      | ⟨0, _⟩ => rfl
      | ⟨1, _⟩ => rfl
      | ⟨2, _⟩ => show 1 + j.val = 1 + j.val; omega
  | ⟨2, _⟩ =>
    refine Eq.trans (concatenate_apply_piece (t := S256x40x15x754) 2 _ _ _ 2 ?_ S256x40x1x754 (val_main_v35 (F := Ideal) x0 x2 x3 x10) ?_ rfl 2 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v35_apply, val_main_v20_apply]
      generalize val_main_v17 (F := Ideal) x0 x2 x3 x10 = y
      refine congrArg y (funext fun a => Fin.ext ?_)
      match a with
      | ⟨0, _⟩ => rfl
      | ⟨1, _⟩ => rfl
      | ⟨2, _⟩ => show 2 + j.val = 2 + j.val; omega
  | ⟨3, _⟩ =>
    refine Eq.trans (concatenate_apply_piece (t := S256x40x15x754) 2 _ _ _ 3 ?_ S256x40x1x754 (val_main_v36 (F := Ideal) x0 x2 x3 x10) ?_ rfl 3 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v36_apply, val_main_v21_apply]
      generalize val_main_v17 (F := Ideal) x0 x2 x3 x10 = y
      refine congrArg y (funext fun a => Fin.ext ?_)
      match a with
      | ⟨0, _⟩ => rfl
      | ⟨1, _⟩ => rfl
      | ⟨2, _⟩ => show 3 + j.val = 3 + j.val; omega
  | ⟨4, _⟩ =>
    refine Eq.trans (concatenate_apply_piece (t := S256x40x15x754) 2 _ _ _ 4 ?_ S256x40x1x754 (val_main_v37 (F := Ideal) x0 x2 x3 x10) ?_ rfl 4 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v37_apply, val_main_v22_apply]
      generalize val_main_v17 (F := Ideal) x0 x2 x3 x10 = y
      refine congrArg y (funext fun a => Fin.ext ?_)
      match a with
      | ⟨0, _⟩ => rfl
      | ⟨1, _⟩ => rfl
      | ⟨2, _⟩ => show 4 + j.val = 4 + j.val; omega
  | ⟨5, _⟩ =>
    refine Eq.trans (concatenate_apply_piece (t := S256x40x15x754) 2 _ _ _ 5 ?_ S256x40x1x754 (val_main_v38 (F := Ideal) x0 x2 x3 x10) ?_ rfl 5 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v38_apply, val_main_v23_apply]
      generalize val_main_v17 (F := Ideal) x0 x2 x3 x10 = y
      refine congrArg y (funext fun a => Fin.ext ?_)
      match a with
      | ⟨0, _⟩ => rfl
      | ⟨1, _⟩ => rfl
      | ⟨2, _⟩ => show 5 + j.val = 5 + j.val; omega
  | ⟨6, _⟩ =>
    refine Eq.trans (concatenate_apply_piece (t := S256x40x15x754) 2 _ _ _ 6 ?_ S256x40x1x754 (val_main_v39 (F := Ideal) x0 x2 x3 x10) ?_ rfl 6 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v39_apply, val_main_v24_apply]
      generalize val_main_v17 (F := Ideal) x0 x2 x3 x10 = y
      refine congrArg y (funext fun a => Fin.ext ?_)
      match a with
      | ⟨0, _⟩ => rfl
      | ⟨1, _⟩ => rfl
      | ⟨2, _⟩ => show 6 + j.val = 6 + j.val; omega
  | ⟨7, _⟩ =>
    refine Eq.trans (concatenate_apply_piece (t := S256x40x15x754) 2 _ _ _ 7 ?_ S256x40x1x754 (val_main_v40 (F := Ideal) x0 x2 x3 x10) ?_ rfl 7 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v40_apply, val_main_v25_apply]
      generalize val_main_v17 (F := Ideal) x0 x2 x3 x10 = y
      refine congrArg y (funext fun a => Fin.ext ?_)
      match a with
      | ⟨0, _⟩ => rfl
      | ⟨1, _⟩ => rfl
      | ⟨2, _⟩ => show 7 + j.val = 7 + j.val; omega
  | ⟨8, _⟩ =>
    refine Eq.trans (concatenate_apply_piece (t := S256x40x15x754) 2 _ _ _ 8 ?_ S256x40x1x754 (val_main_v41 (F := Ideal) x0 x2 x3 x10) ?_ rfl 8 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v41_apply, val_main_v26_apply]
      generalize val_main_v17 (F := Ideal) x0 x2 x3 x10 = y
      refine congrArg y (funext fun a => Fin.ext ?_)
      match a with
      | ⟨0, _⟩ => rfl
      | ⟨1, _⟩ => rfl
      | ⟨2, _⟩ => show 8 + j.val = 8 + j.val; omega
  | ⟨9, _⟩ =>
    refine Eq.trans (concatenate_apply_piece (t := S256x40x15x754) 2 _ _ _ 9 ?_ S256x40x1x754 (val_main_v42 (F := Ideal) x0 x2 x3 x10) ?_ rfl 9 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v42_apply, val_main_v27_apply]
      generalize val_main_v17 (F := Ideal) x0 x2 x3 x10 = y
      refine congrArg y (funext fun a => Fin.ext ?_)
      match a with
      | ⟨0, _⟩ => rfl
      | ⟨1, _⟩ => rfl
      | ⟨2, _⟩ => show 9 + j.val = 9 + j.val; omega
  | ⟨10, _⟩ =>
    refine Eq.trans (concatenate_apply_piece (t := S256x40x15x754) 2 _ _ _ 10 ?_ S256x40x1x754 (val_main_v43 (F := Ideal) x0 x2 x3 x10) ?_ rfl 10 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v43_apply, val_main_v28_apply]
      generalize val_main_v17 (F := Ideal) x0 x2 x3 x10 = y
      refine congrArg y (funext fun a => Fin.ext ?_)
      match a with
      | ⟨0, _⟩ => rfl
      | ⟨1, _⟩ => rfl
      | ⟨2, _⟩ => show 10 + j.val = 10 + j.val; omega
  | ⟨11, _⟩ =>
    refine Eq.trans (concatenate_apply_piece (t := S256x40x15x754) 2 _ _ _ 11 ?_ S256x40x1x754 (val_main_v44 (F := Ideal) x0 x2 x3 x10) ?_ rfl 11 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v44_apply, val_main_v29_apply]
      generalize val_main_v17 (F := Ideal) x0 x2 x3 x10 = y
      refine congrArg y (funext fun a => Fin.ext ?_)
      match a with
      | ⟨0, _⟩ => rfl
      | ⟨1, _⟩ => rfl
      | ⟨2, _⟩ => show 11 + j.val = 11 + j.val; omega
  | ⟨12, _⟩ =>
    refine Eq.trans (concatenate_apply_piece (t := S256x40x15x754) 2 _ _ _ 12 ?_ S256x40x1x754 (val_main_v45 (F := Ideal) x0 x2 x3 x10) ?_ rfl 12 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v45_apply, val_main_v30_apply]
      generalize val_main_v17 (F := Ideal) x0 x2 x3 x10 = y
      refine congrArg y (funext fun a => Fin.ext ?_)
      match a with
      | ⟨0, _⟩ => rfl
      | ⟨1, _⟩ => rfl
      | ⟨2, _⟩ => show 12 + j.val = 12 + j.val; omega
  | ⟨13, _⟩ =>
    refine Eq.trans (concatenate_apply_piece (t := S256x40x15x754) 2 _ _ _ 13 ?_ S256x40x1x754 (val_main_v46 (F := Ideal) x0 x2 x3 x10) ?_ rfl 13 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v46_apply, val_main_v31_apply]
      generalize val_main_v17 (F := Ideal) x0 x2 x3 x10 = y
      refine congrArg y (funext fun a => Fin.ext ?_)
      match a with
      | ⟨0, _⟩ => rfl
      | ⟨1, _⟩ => rfl
      | ⟨2, _⟩ => show 13 + j.val = 13 + j.val; omega
  | ⟨14, _⟩ =>
    refine Eq.trans (concatenate_apply_piece (t := S256x40x15x754) 2 _ _ _ 14 ?_ S256x40x1x754 (val_main_v47 (F := Ideal) x0 x2 x3 x10) ?_ rfl 14 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v47_apply, val_main_v32_apply]
      generalize val_main_v17 (F := Ideal) x0 x2 x3 x10 = y
      refine congrArg y (funext fun a => Fin.ext ?_)
      match a with
      | ⟨0, _⟩ => rfl
      | ⟨1, _⟩ => rfl
      | ⟨2, _⟩ => show 14 + j.val = 14 + j.val; omega

/-- The tower, at an index. -/
theorem towU_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x6 : (⟨S40x40x754, .f32⟩ : BufTy).Contents (Elt Ideal)) (x7 : (⟨S40, .f32⟩ : BufTy).Contents (Elt Ideal)) (x10 : (⟨S47155x6, .f32⟩ : BufTy).Contents (Elt Ideal)) (i : Fin 256) (q : Fin 600) :
    val_main_v56 (F := Ideal) x0 x2 x3 x6 x7 x10 (ix2 i q)
      = max ((∑ C : Fin 40, ∑ j : Fin 754, (x6 (ix3 (⟨q.val / 15, by omega⟩ : Fin 40) C j) : EReal)
          * val_main_v17 (F := Ideal) x0 x2 x3 x10 (ix3 i C (⟨q.val % 15 + j.val, by omega⟩ : Fin 768))) + x7 (ix1 (⟨q.val / 15, by omega⟩ : Fin 40))) 0 := by
  have e0 : idx_main_v50 (idx_main_v55 (ix2 i q)) = ix3 (⟨q.val / 15, by omega⟩ : Fin 40) i (⟨q.val % 15, by omega⟩ : Fin 15) := by
    funext a; apply Fin.ext
    match a with
    | ⟨0, _⟩ => show (i.val * 600 + q.val) / 15 % 40 = q.val / 15; omega
    | ⟨1, _⟩ => show (i.val * 600 + q.val) / 600 = i.val; omega
    | ⟨2, _⟩ => show (i.val * 600 + q.val) % 15 = q.val % 15; omega
  have e1 : idx_main_v51 (idx_main_v52 (idx_main_v55 (ix2 i q))) = ix1 (⟨q.val / 15, by omega⟩ : Fin 40) := by
    funext a; apply Fin.ext
    match a with
    | ⟨0, _⟩ => show (i.val * 600 + q.val) / 15 % 40 = q.val / 15; omega
  simp only [val_main_v56_apply, val_main_v55_apply, val_main_v54_apply, val_main_v53_apply, val_main_v52_apply, val_main_v51_apply, val_main_v50_apply, val_main_call1_v0_apply, val_main_call0_v0_apply, val_main_call0_cst_apply, val_main_call1_cst_apply, e0, e1]
  unfold val_main_v49
  rw [dot_apply]
  simp only [winU_apply]
  have ez : (FloatOps.ofBits .f32 0x00000000#32 : Ideal .f32) = (0 : EReal) := Ideal.ofBits_zero .f32
  rw [ez]
  show max (max _ (0 : EReal)) (0 : EReal) = _
  rw [max_assoc, max_self]
  rfl

/-- The weighted review, at an index. -/
theorem reI_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x10 : (⟨S16532x6, .f32⟩ : BufTy).Contents (Elt Ideal)) (i : Fin 256) (C : Fin 40) (p : Fin 768) :
    val_main_v81 (F := Ideal) x0 x2 x3 x10 (ix3 i C p)
      = (∑ k : Fin 6, (x2 (ix3 i C p) : EReal) * (x3 (ix3 i k C) * val_main_v70 (F := Ideal) x0 x10 (ix2 i k))) * ((1 / 6 : ℝ) : EReal) := by
  unfold val_main_v81 val_main_v80 val_main_cst_7 val_main_v79 val_main_cst_6 val_main_v78 val_main_v77 val_main_v76 val_main_v75 val_main_v74 val_main_v73 val_main_v72 val_main_v71
  pointwise
  rw [ofBits_six, Ideal.div_coe (by norm_num)]

set_option maxHeartbeats 2000000 in
theorem winI_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x10 : (⟨S16532x6, .f32⟩ : BufTy).Contents (Elt Ideal)) (i : Fin 256) (C : Fin 40) (h : Fin 15) (j : Fin 754) :
    val_main_v112 (F := Ideal) x0 x2 x3 x10 (ix4 i C h j) = val_main_v81 (F := Ideal) x0 x2 x3 x10 (ix3 i C (⟨h.val + j.val, by omega⟩ : Fin 768)) := by
  unfold val_main_v112
  match h with
  | ⟨0, _⟩ =>
    refine Eq.trans (concatenate_apply_piece (t := S256x40x15x754) 2 _ _ _ 0 ?_ S256x40x1x754 (val_main_v97 (F := Ideal) x0 x2 x3 x10) ?_ rfl 0 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v97_apply, val_main_v82_apply]
      generalize val_main_v81 (F := Ideal) x0 x2 x3 x10 = y
      refine congrArg y (funext fun a => Fin.ext ?_)
      match a with
      | ⟨0, _⟩ => rfl
      | ⟨1, _⟩ => rfl
      | ⟨2, _⟩ => show j.val = 0 + j.val; omega
  | ⟨1, _⟩ =>
    refine Eq.trans (concatenate_apply_piece (t := S256x40x15x754) 2 _ _ _ 1 ?_ S256x40x1x754 (val_main_v98 (F := Ideal) x0 x2 x3 x10) ?_ rfl 1 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v98_apply, val_main_v83_apply]
      generalize val_main_v81 (F := Ideal) x0 x2 x3 x10 = y
      refine congrArg y (funext fun a => Fin.ext ?_)
      match a with
      | ⟨0, _⟩ => rfl
      | ⟨1, _⟩ => rfl
      | ⟨2, _⟩ => show 1 + j.val = 1 + j.val; omega
  | ⟨2, _⟩ =>
    refine Eq.trans (concatenate_apply_piece (t := S256x40x15x754) 2 _ _ _ 2 ?_ S256x40x1x754 (val_main_v99 (F := Ideal) x0 x2 x3 x10) ?_ rfl 2 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v99_apply, val_main_v84_apply]
      generalize val_main_v81 (F := Ideal) x0 x2 x3 x10 = y
      refine congrArg y (funext fun a => Fin.ext ?_)
      match a with
      | ⟨0, _⟩ => rfl
      | ⟨1, _⟩ => rfl
      | ⟨2, _⟩ => show 2 + j.val = 2 + j.val; omega
  | ⟨3, _⟩ =>
    refine Eq.trans (concatenate_apply_piece (t := S256x40x15x754) 2 _ _ _ 3 ?_ S256x40x1x754 (val_main_v100 (F := Ideal) x0 x2 x3 x10) ?_ rfl 3 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v100_apply, val_main_v85_apply]
      generalize val_main_v81 (F := Ideal) x0 x2 x3 x10 = y
      refine congrArg y (funext fun a => Fin.ext ?_)
      match a with
      | ⟨0, _⟩ => rfl
      | ⟨1, _⟩ => rfl
      | ⟨2, _⟩ => show 3 + j.val = 3 + j.val; omega
  | ⟨4, _⟩ =>
    refine Eq.trans (concatenate_apply_piece (t := S256x40x15x754) 2 _ _ _ 4 ?_ S256x40x1x754 (val_main_v101 (F := Ideal) x0 x2 x3 x10) ?_ rfl 4 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v101_apply, val_main_v86_apply]
      generalize val_main_v81 (F := Ideal) x0 x2 x3 x10 = y
      refine congrArg y (funext fun a => Fin.ext ?_)
      match a with
      | ⟨0, _⟩ => rfl
      | ⟨1, _⟩ => rfl
      | ⟨2, _⟩ => show 4 + j.val = 4 + j.val; omega
  | ⟨5, _⟩ =>
    refine Eq.trans (concatenate_apply_piece (t := S256x40x15x754) 2 _ _ _ 5 ?_ S256x40x1x754 (val_main_v102 (F := Ideal) x0 x2 x3 x10) ?_ rfl 5 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v102_apply, val_main_v87_apply]
      generalize val_main_v81 (F := Ideal) x0 x2 x3 x10 = y
      refine congrArg y (funext fun a => Fin.ext ?_)
      match a with
      | ⟨0, _⟩ => rfl
      | ⟨1, _⟩ => rfl
      | ⟨2, _⟩ => show 5 + j.val = 5 + j.val; omega
  | ⟨6, _⟩ =>
    refine Eq.trans (concatenate_apply_piece (t := S256x40x15x754) 2 _ _ _ 6 ?_ S256x40x1x754 (val_main_v103 (F := Ideal) x0 x2 x3 x10) ?_ rfl 6 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v103_apply, val_main_v88_apply]
      generalize val_main_v81 (F := Ideal) x0 x2 x3 x10 = y
      refine congrArg y (funext fun a => Fin.ext ?_)
      match a with
      | ⟨0, _⟩ => rfl
      | ⟨1, _⟩ => rfl
      | ⟨2, _⟩ => show 6 + j.val = 6 + j.val; omega
  | ⟨7, _⟩ =>
    refine Eq.trans (concatenate_apply_piece (t := S256x40x15x754) 2 _ _ _ 7 ?_ S256x40x1x754 (val_main_v104 (F := Ideal) x0 x2 x3 x10) ?_ rfl 7 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v104_apply, val_main_v89_apply]
      generalize val_main_v81 (F := Ideal) x0 x2 x3 x10 = y
      refine congrArg y (funext fun a => Fin.ext ?_)
      match a with
      | ⟨0, _⟩ => rfl
      | ⟨1, _⟩ => rfl
      | ⟨2, _⟩ => show 7 + j.val = 7 + j.val; omega
  | ⟨8, _⟩ =>
    refine Eq.trans (concatenate_apply_piece (t := S256x40x15x754) 2 _ _ _ 8 ?_ S256x40x1x754 (val_main_v105 (F := Ideal) x0 x2 x3 x10) ?_ rfl 8 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v105_apply, val_main_v90_apply]
      generalize val_main_v81 (F := Ideal) x0 x2 x3 x10 = y
      refine congrArg y (funext fun a => Fin.ext ?_)
      match a with
      | ⟨0, _⟩ => rfl
      | ⟨1, _⟩ => rfl
      | ⟨2, _⟩ => show 8 + j.val = 8 + j.val; omega
  | ⟨9, _⟩ =>
    refine Eq.trans (concatenate_apply_piece (t := S256x40x15x754) 2 _ _ _ 9 ?_ S256x40x1x754 (val_main_v106 (F := Ideal) x0 x2 x3 x10) ?_ rfl 9 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v106_apply, val_main_v91_apply]
      generalize val_main_v81 (F := Ideal) x0 x2 x3 x10 = y
      refine congrArg y (funext fun a => Fin.ext ?_)
      match a with
      | ⟨0, _⟩ => rfl
      | ⟨1, _⟩ => rfl
      | ⟨2, _⟩ => show 9 + j.val = 9 + j.val; omega
  | ⟨10, _⟩ =>
    refine Eq.trans (concatenate_apply_piece (t := S256x40x15x754) 2 _ _ _ 10 ?_ S256x40x1x754 (val_main_v107 (F := Ideal) x0 x2 x3 x10) ?_ rfl 10 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v107_apply, val_main_v92_apply]
      generalize val_main_v81 (F := Ideal) x0 x2 x3 x10 = y
      refine congrArg y (funext fun a => Fin.ext ?_)
      match a with
      | ⟨0, _⟩ => rfl
      | ⟨1, _⟩ => rfl
      | ⟨2, _⟩ => show 10 + j.val = 10 + j.val; omega
  | ⟨11, _⟩ =>
    refine Eq.trans (concatenate_apply_piece (t := S256x40x15x754) 2 _ _ _ 11 ?_ S256x40x1x754 (val_main_v108 (F := Ideal) x0 x2 x3 x10) ?_ rfl 11 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v108_apply, val_main_v93_apply]
      generalize val_main_v81 (F := Ideal) x0 x2 x3 x10 = y
      refine congrArg y (funext fun a => Fin.ext ?_)
      match a with
      | ⟨0, _⟩ => rfl
      | ⟨1, _⟩ => rfl
      | ⟨2, _⟩ => show 11 + j.val = 11 + j.val; omega
  | ⟨12, _⟩ =>
    refine Eq.trans (concatenate_apply_piece (t := S256x40x15x754) 2 _ _ _ 12 ?_ S256x40x1x754 (val_main_v109 (F := Ideal) x0 x2 x3 x10) ?_ rfl 12 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v109_apply, val_main_v94_apply]
      generalize val_main_v81 (F := Ideal) x0 x2 x3 x10 = y
      refine congrArg y (funext fun a => Fin.ext ?_)
      match a with
      | ⟨0, _⟩ => rfl
      | ⟨1, _⟩ => rfl
      | ⟨2, _⟩ => show 12 + j.val = 12 + j.val; omega
  | ⟨13, _⟩ =>
    refine Eq.trans (concatenate_apply_piece (t := S256x40x15x754) 2 _ _ _ 13 ?_ S256x40x1x754 (val_main_v110 (F := Ideal) x0 x2 x3 x10) ?_ rfl 13 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v110_apply, val_main_v95_apply]
      generalize val_main_v81 (F := Ideal) x0 x2 x3 x10 = y
      refine congrArg y (funext fun a => Fin.ext ?_)
      match a with
      | ⟨0, _⟩ => rfl
      | ⟨1, _⟩ => rfl
      | ⟨2, _⟩ => show 13 + j.val = 13 + j.val; omega
  | ⟨14, _⟩ =>
    refine Eq.trans (concatenate_apply_piece (t := S256x40x15x754) 2 _ _ _ 14 ?_ S256x40x1x754 (val_main_v111 (F := Ideal) x0 x2 x3 x10) ?_ rfl 14 ?_ (ix4 i C (0 : Fin 1) j) (fun b hb => ?_) ?_) ?_
    · simp
    · rfl
    · rfl
    · match b with
      | ⟨0, _⟩ => rfl
      | ⟨1, _⟩ => rfl
      | ⟨2, _⟩ => exact absurd rfl hb
      | ⟨3, _⟩ => rfl
    · rfl
    · rw [val_main_v111_apply, val_main_v96_apply]
      generalize val_main_v81 (F := Ideal) x0 x2 x3 x10 = y
      refine congrArg y (funext fun a => Fin.ext ?_)
      match a with
      | ⟨0, _⟩ => rfl
      | ⟨1, _⟩ => rfl
      | ⟨2, _⟩ => show 14 + j.val = 14 + j.val; omega

/-- The tower, at an index. -/
theorem towI_apply (x0 : (⟨S256, .i32⟩ : BufTy).Contents (Elt Ideal)) (x2 : (⟨S256x40x768, .f32⟩ : BufTy).Contents (Elt Ideal)) (x3 : (⟨S256x6x40, .f32⟩ : BufTy).Contents (Elt Ideal)) (x6 : (⟨S40x40x754, .f32⟩ : BufTy).Contents (Elt Ideal)) (x7 : (⟨S40, .f32⟩ : BufTy).Contents (Elt Ideal)) (x10 : (⟨S16532x6, .f32⟩ : BufTy).Contents (Elt Ideal)) (i : Fin 256) (q : Fin 600) :
    val_main_v120 (F := Ideal) x0 x2 x3 x6 x7 x10 (ix2 i q)
      = max ((∑ C : Fin 40, ∑ j : Fin 754, (x6 (ix3 (⟨q.val / 15, by omega⟩ : Fin 40) C j) : EReal)
          * val_main_v81 (F := Ideal) x0 x2 x3 x10 (ix3 i C (⟨q.val % 15 + j.val, by omega⟩ : Fin 768))) + x7 (ix1 (⟨q.val / 15, by omega⟩ : Fin 40))) 0 := by
  have e0 : idx_main_v114 (idx_main_v119 (ix2 i q)) = ix3 (⟨q.val / 15, by omega⟩ : Fin 40) i (⟨q.val % 15, by omega⟩ : Fin 15) := by
    funext a; apply Fin.ext
    match a with
    | ⟨0, _⟩ => show (i.val * 600 + q.val) / 15 % 40 = q.val / 15; omega
    | ⟨1, _⟩ => show (i.val * 600 + q.val) / 600 = i.val; omega
    | ⟨2, _⟩ => show (i.val * 600 + q.val) % 15 = q.val % 15; omega
  have e1 : idx_main_v115 (idx_main_v116 (idx_main_v119 (ix2 i q))) = ix1 (⟨q.val / 15, by omega⟩ : Fin 40) := by
    funext a; apply Fin.ext
    match a with
    | ⟨0, _⟩ => show (i.val * 600 + q.val) / 15 % 40 = q.val / 15; omega
  simp only [val_main_v120_apply, val_main_v119_apply, val_main_v118_apply, val_main_v117_apply, val_main_v116_apply, val_main_v115_apply, val_main_v114_apply, val_main_call3_v0_apply, val_main_call2_v0_apply, val_main_call2_cst_apply, val_main_call3_cst_apply, e0, e1]
  unfold val_main_v113
  rw [dot_apply]
  simp only [winI_apply]
  have ez : (FloatOps.ofBits .f32 0x00000000#32 : Ideal .f32) = (0 : EReal) := Ideal.ofBits_zero .f32
  rw [ez]
  show max (max _ (0 : EReal)) (0 : EReal) = _
  rw [max_assoc, max_self]
  rfl

end Cert.ReferenceIdeal.Read
end
-- ==== Proof.R.Final.lean ====
module

public import proofs.«01_k».proof.Proof.R.Tower
public import Idealize.ShloMosaic.Lib.Pointwise
public import Idealize.ShloMosaic.Lib.MatmulPlain

@[expose] public section

set_option maxRecDepth 16384

noncomputable section

namespace Cert.ReferenceIdeal.Read

open Idealize.ShloMosaic Idealize.ShloMosaic.TcCoe

/-- The reference's result, at an index. -/
theorem out_apply (x0 x1 : (⟨S256, .i32⟩ : BufTy).Contents (Elt Ideal)) (x2 : (⟨S256x40x768, .f32⟩ : BufTy).Contents (Elt Ideal)) (x3 : (⟨S256x6x40, .f32⟩ : BufTy).Contents (Elt Ideal)) (x4 : (⟨S256x40x768, .f32⟩ : BufTy).Contents (Elt Ideal)) (x5 : (⟨S256x6x40, .f32⟩ : BufTy).Contents (Elt Ideal)) (x6 : (⟨S40x40x754, .f32⟩ : BufTy).Contents (Elt Ideal)) (x7 : (⟨S40, .f32⟩ : BufTy).Contents (Elt Ideal)) (x8 : (⟨S40x40x754, .f32⟩ : BufTy).Contents (Elt Ideal)) (x9 : (⟨S40, .f32⟩ : BufTy).Contents (Elt Ideal)) (x10 : (⟨S47155x6, .f32⟩ : BufTy).Contents (Elt Ideal)) (x11 : (⟨S16532x6, .f32⟩ : BufTy).Contents (Elt Ideal)) (x12 : (⟨S47155x1, .f32⟩ : BufTy).Contents (Elt Ideal)) (x13 : (⟨S16532x1, .f32⟩ : BufTy).Contents (Elt Ideal)) (x14 : (⟨S1, .f32⟩ : BufTy).Contents (Elt Ideal)) (x15 : (⟨S47155x600, .f32⟩ : BufTy).Contents (Elt Ideal)) (x16 : (⟨S16532x600, .f32⟩ : BufTy).Contents (Elt Ideal)) (i : Fin 256) :
    val_main_v169 (F := Ideal) x0 x1 x2 x3 x4 x5 x6 x7 x8 x9 x10 x11 x12 x13 x14 x15 x16 (ix1 i)
      = (∑ q : Fin 600, (val_main_v56 (F := Ideal) x0 x2 x3 x6 x7 x10 (ix2 i q) : EReal) * val_main_v120 (F := Ideal) x1 x4 x5 x8 x9 x11 (ix2 i q))
        + val_main_v135 (F := Ideal) x0 x12 (ix2 i (0 : Fin 1)) + val_main_v144 (F := Ideal) x1 x13 (ix2 i (0 : Fin 1)) + x14 (ix1 (0 : Fin 1)) := by
  unfold val_main_v169 val_main_v168 val_main_v167 val_main_cst_20 val_main_v149 val_main_v148 val_main_v147 val_main_v146 val_main_v145 val_main_v137 val_main_v136 val_main_v128
  generalize val_main_v166 (F := Ideal) x0 x1 x2 x3 x4 x5 x6 x7 x8 x9 x10 x11 x15 x16 = z
  generalize val_main_v56 (F := Ideal) x0 x2 x3 x6 x7 x10 = u
  generalize val_main_v120 (F := Ideal) x1 x4 x5 x8 x9 x11 = w
  generalize val_main_v135 (F := Ideal) x0 x12 = a
  generalize val_main_v144 (F := Ideal) x1 x13 = b
  pointwise
  rw [zero_mul, add_zero]

end Cert.ReferenceIdeal.Read
end
-- ==== Proof.Alg.lean ====
module

public import proofs.«01_k».proof.Proof.KI.Result
public import proofs.«01_k».proof.Proof.R.Final

@[expose] public section

set_option maxRecDepth 16384

noncomputable section

namespace Cert.KernelIdeal.Att

open Idealize.ShloMosaic Idealize.ShloMosaic.TcCoe
open Cert.KernelIdeal.Gen Cert.KernelIdeal.Host

/-- Neither infinity. -/
abbrev IsReal (x : EReal) : Prop := ∃ a : ℝ, x = a

variable (m : (ℓ : Loc nD τ sig) → Buf (Elt Ideal) ℓ)

theorem GU_ref (c : Dev nD) : GU m c = Cert.ReferenceIdeal.Read.val_main_v6 (F := Ideal) (A m c main_arg0) (A m c main_arg10) := rfl

theorem offU_ref (c : Dev nD) : offU m c = Cert.ReferenceIdeal.Read.val_main_v135 (F := Ideal) (A m c main_arg0) (A m c main_arg12) := rfl

theorem GU_real (c : Dev nD) (h : ∀ i, IsReal ((A m c main_arg10 : S47155x6.Idx → EReal) i)) (j : S256x6.Idx) : IsReal (GU m c j) := h _

theorem towU_ref (c : Dev nD) (h2 : ∀ i, IsReal ((A m c main_arg2 : S256x40x768.Idx → EReal) i)) (h3 : ∀ i, IsReal ((A m c main_arg3 : S256x6x40.Idx → EReal) i))
    (h10 : ∀ i, IsReal ((A m c main_arg10 : S47155x6.Idx → EReal) i)) (i : Fin 256) (q : Fin 600) :
    towU m c i q = (Cert.ReferenceIdeal.Read.val_main_v56 (F := Ideal) (A m c main_arg0) (A m c main_arg2) (A m c main_arg3) (A m c main_arg6) (A m c main_arg7) (A m c main_arg10) (ix2 i q) : EReal) := by
  refine Eq.trans ?_ (Cert.ReferenceIdeal.Read.towU_apply (A m c main_arg0) (A m c main_arg2) (A m c main_arg3) (A m c main_arg6) (A m c main_arg7) (A m c main_arg10) i q).symm
  unfold towU
  refine congrArg (fun z : EReal => max (z + _) 0) (Finset.sum_congr rfl fun C _ => Finset.sum_congr rfl fun j _ => ?_)
  refine congrArg (fun z : EReal => KU m c (ix3 (⟨q.val / 15, by omega⟩ : Fin 40) C j) * z) ?_
  refine Eq.trans ?_ (Cert.ReferenceIdeal.Read.reU_apply (A m c main_arg0) (A m c main_arg2) (A m c main_arg3) (A m c main_arg10) i C _).symm
  have hR : RU m c = (A m c main_arg2 : S256x40x768.Idx → EReal) := V_main_arg2 m c
  rw [hR, WU_apply]
  exact Cert.Math.weigh _ _ _ (h2 _) (fun k => GU_real m c h10 _) (fun k => h3 _)

theorem GI_ref (c : Dev nD) : GI m c = Cert.ReferenceIdeal.Read.val_main_v70 (F := Ideal) (A m c main_arg1) (A m c main_arg11) := rfl

theorem offI_ref (c : Dev nD) : offI m c = Cert.ReferenceIdeal.Read.val_main_v144 (F := Ideal) (A m c main_arg1) (A m c main_arg13) := rfl

theorem GI_real (c : Dev nD) (h : ∀ i, IsReal ((A m c main_arg11 : S16532x6.Idx → EReal) i)) (j : S256x6.Idx) : IsReal (GI m c j) := h _

theorem towI_ref (c : Dev nD) (h2 : ∀ i, IsReal ((A m c main_arg4 : S256x40x768.Idx → EReal) i)) (h3 : ∀ i, IsReal ((A m c main_arg5 : S256x6x40.Idx → EReal) i))
    (h10 : ∀ i, IsReal ((A m c main_arg11 : S16532x6.Idx → EReal) i)) (i : Fin 256) (q : Fin 600) :
    towI m c i q = (Cert.ReferenceIdeal.Read.val_main_v120 (F := Ideal) (A m c main_arg1) (A m c main_arg4) (A m c main_arg5) (A m c main_arg8) (A m c main_arg9) (A m c main_arg11) (ix2 i q) : EReal) := by
  refine Eq.trans ?_ (Cert.ReferenceIdeal.Read.towI_apply (A m c main_arg1) (A m c main_arg4) (A m c main_arg5) (A m c main_arg8) (A m c main_arg9) (A m c main_arg11) i q).symm
  unfold towI
  refine congrArg (fun z : EReal => max (z + _) 0) (Finset.sum_congr rfl fun C _ => Finset.sum_congr rfl fun j _ => ?_)
  refine congrArg (fun z : EReal => KI m c (ix3 (⟨q.val / 15, by omega⟩ : Fin 40) C j) * z) ?_
  refine Eq.trans ?_ (Cert.ReferenceIdeal.Read.reI_apply (A m c main_arg1) (A m c main_arg4) (A m c main_arg5) (A m c main_arg11) i C _).symm
  have hR : RI m c = (A m c main_arg4 : S256x40x768.Idx → EReal) := V_main_arg4 m c
  rw [hR, WI_apply]
  exact Cert.Math.weigh _ _ _ (h2 _) (fun k => GI_real m c h10 _) (fun k => h3 _)

/-- The kernel's result is the reference's, on finite reviews, scores and preference tables. -/
theorem res_ref (c : Dev nD) (h2 : ∀ i, IsReal ((A m c main_arg2 : S256x40x768.Idx → EReal) i)) (h3 : ∀ i, IsReal ((A m c main_arg3 : S256x6x40.Idx → EReal) i))
    (h4 : ∀ i, IsReal ((A m c main_arg4 : S256x40x768.Idx → EReal) i)) (h5 : ∀ i, IsReal ((A m c main_arg5 : S256x6x40.Idx → EReal) i))
    (h10 : ∀ i, IsReal ((A m c main_arg10 : S47155x6.Idx → EReal) i)) (h11 : ∀ i, IsReal ((A m c main_arg11 : S16532x6.Idx → EReal) i)) :
    res m c = Cert.ReferenceIdeal.Read.val_main_v169 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) := by
  funext j
  rw [eq_ix1 j]
  refine (res_apply m c (j 0)).trans ?_
  refine Eq.trans ?_ (Cert.ReferenceIdeal.Read.out_apply (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (j 0)).symm
  refine add_four (Finset.sum_congr rfl fun q _ => mul_two (towU_ref m c h2 h3 h10 _ q) (towI_ref m c h4 h5 h11 _ q)) ?_ ?_ rfl
  · exact congrFun (offU_ref m c) _
  · exact congrFun (offI_ref m c) _

end Cert.KernelIdeal.Att
end
-- ==== Proof.L.Fin.lean ====
module

public import proofs.«01_k».proof.Proof.Gen.Pre_finite
public import Idealize.ShloMosaic.Lib.Pointwise
public import Idealize.ShloMosaic.Lib.ReduceAll

@[expose] public section

set_option maxRecDepth 16384

noncomputable section

namespace Cert.Pre_finite.Gen

open Idealize.ShloMosaic Cert.Pre_finite

theorem ofBits_inf : Ideal.ofBits FTy.f32 0x7F800000#32 = (⊤ : EReal) := by
  simp [Ideal.ofBits, Ideal.ieee, BitVec.toNat_ofNat]

/-- An element whose absolute value is below infinity is a real number. -/
theorem real_of_lt {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) : ∃ a : ℝ, (x i : EReal) = a := by
  have h1 : Ideal.cmp .olt (max (x i : EReal) (-(x i : EReal))) (Ideal.ofBits FTy.f32 0x7F800000#32) = 1#1 := h
  rw [ofBits_inf] at h1
  have h2 : max (x i : EReal) (-(x i : EReal)) < ⊤ := by
    by_contra hn
    have h3 : Ideal.cmp .olt (max (x i : EReal) (-(x i : EReal))) ⊤ = 0#1 := by
      show BitVec.ofBool (decide _) = 0#1
      rw [decide_eq_false hn]; rfl
    rw [h3] at h1
    exact absurd h1 (by decide)
  have ht : (x i : EReal) ≠ ⊤ := fun e => by rw [e] at h2; simp at h2
  have hbot : (x i : EReal) ≠ ⊥ := fun e => by rw [e] at h2; simp at h2
  exact ⟨(x i : EReal).toReal, (EReal.coe_toReal ht hbot).symm⟩

instance : Subsingleton S_.Idx := ⟨fun a b => funext fun k => k.elim0⟩

/-- The precondition, element by element. -/
theorem finite_real {x0 x1 : IVec S256 32} {x2 : FVec Ideal S256x40x768 .f32} {x3 : FVec Ideal S256x6x40 .f32} {x4 : FVec Ideal S256x40x768 .f32} {x5 : FVec Ideal S256x6x40 .f32}
    {x6 : FVec Ideal S40x40x754 .f32} {x7 : FVec Ideal S40 .f32} {x8 : FVec Ideal S40x40x754 .f32} {x9 : FVec Ideal S40 .f32} {x10 : FVec Ideal S47155x6 .f32} {x11 : FVec Ideal S16532x6 .f32}
    {x12 : FVec Ideal S47155x1 .f32} {x13 : FVec Ideal S16532x1 .f32} {x14 : FVec Ideal S1 .f32} {x15 : FVec Ideal S47155x600 .f32} {x16 : FVec Ideal S16532x600 .f32}
    (h : fn (F := Ideal) x0 x1 x2 x3 x4 x5 x6 x7 x8 x9 x10 x11 x12 x13 x14 x15 x16 = fun _ => 1#1) :
    (∀ i, ∃ a : ℝ, (x2 i : EReal) = a) ∧ (∀ i, ∃ a : ℝ, (x3 i : EReal) = a) ∧ (∀ i, ∃ a : ℝ, (x4 i : EReal) = a) ∧ (∀ i, ∃ a : ℝ, (x5 i : EReal) = a)
      ∧ (∀ i, ∃ a : ℝ, (x10 i : EReal) = a) ∧ (∀ i, ∃ a : ℝ, (x11 i : EReal) = a) := by
  have h0 := congrFun h ix0
  unfold fn fn_part1 at h0
  obtain ⟨h0, h11⟩ := IntOp.andi_eq_one.1 h0
  obtain ⟨h0, h10⟩ := IntOp.andi_eq_one.1 h0
  obtain ⟨h0, h5⟩ := IntOp.andi_eq_one.1 h0
  obtain ⟨h0, h4⟩ := IntOp.andi_eq_one.1 h0
  obtain ⟨h2, h3⟩ := IntOp.andi_eq_one.1 h0
  exact ⟨fun i => real_of_lt _ x2 i (Host.reduce_andi_all _ _ _ _ _ h2 i), fun i => real_of_lt _ x3 i (Host.reduce_andi_all _ _ _ _ _ h3 i),
    fun i => real_of_lt _ x4 i (Host.reduce_andi_all _ _ _ _ _ h4 i), fun i => real_of_lt _ x5 i (Host.reduce_andi_all _ _ _ _ _ h5 i),
    fun i => real_of_lt _ x10 i (Host.reduce_andi_all _ _ _ _ _ h10 i), fun i => real_of_lt _ x11 i (Host.reduce_andi_all _ _ _ _ _ h11 i)⟩

end Cert.Pre_finite.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.K.Final
public import proofs.«01_k».proof.Proof.KI.Final
public import proofs.«01_k».proof.Proof.Alg
public import proofs.«01_k».proof.Proof.L.Fin
public import Idealize.ShloMosaic.Adequacy
public import Idealize.ShloMosaic.Init

@[expose] public section

noncomputable section

namespace Cert.Proof

open Idealize.ShloMosaic Idealize.SL.Sem

theorem ref_frame : quiescent_ReferenceIdeal (hReferenceIdeal := Cert.ReferenceIdeal.Gen.facts) := by
  intro m g _
  refine (θ_run (Cert.ReferenceIdeal.defs (F := Ideal)) _ _).mono (fun r h => ?_) (Cert.ReferenceIdeal.Value.run (F := Ideal) m g)
  exact ⟨fun c => (h c).2, funext fun s => by
    rcases s with ⟨_, s⟩
    rcases s with s | s <;> exact Fin.elim0 s⟩

theorem preserves : preserves_Kernel_KernelIdeal :=
  IdealRules.named_const.statement Cert.KernelIdeal.κ "sixth" .f32 0x3E2AAAAB#32 _ rfl

theorem algebraic : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp hm
  refine ⟨fun c => Cert.KernelIdeal.Att.res m c, (θ_run _ _ _).mono (fun _ h c => ⟨h.2 c, h.1.1 c⟩) (Cert.KernelIdeal.Att.final m g), ?_⟩
  refine (θ_run (Cert.ReferenceIdeal.defs (F := Ideal)) _ _).mono (fun r h c => ⟨?_, (h c).2⟩) (Cert.ReferenceIdeal.Value.run (F := Ideal) m' g')
  refine (h c).1.trans ((Cert.ReferenceIdeal.Read.val_main_v169_eq _).trans ?_)
  obtain ⟨e0, e1, e2, e3, e4, e5, e6, e7, e8, e9, e10, e11, e12, e13, e14, e15, e16⟩ := hm c
  obtain ⟨f2, f3, f4, f5, f10, f11⟩ := Cert.Pre_finite.Gen.finite_real (hp c)
  have h0 : Idealize.ShloMosaic.StableHlo.launchContents m' c (Proc.devRef .tc Cert.ReferenceIdeal.main_arg0) = Cert.KernelIdeal.Host.A m c Cert.KernelIdeal.main_arg0 := e0
  have h1 : Idealize.ShloMosaic.StableHlo.launchContents m' c (Proc.devRef .tc Cert.ReferenceIdeal.main_arg1) = Cert.KernelIdeal.Host.A m c Cert.KernelIdeal.main_arg1 := e1
  have h2 : Idealize.ShloMosaic.StableHlo.launchContents m' c (Proc.devRef .tc Cert.ReferenceIdeal.main_arg2) = Cert.KernelIdeal.Host.A m c Cert.KernelIdeal.main_arg2 := e2
  have h3 : Idealize.ShloMosaic.StableHlo.launchContents m' c (Proc.devRef .tc Cert.ReferenceIdeal.main_arg3) = Cert.KernelIdeal.Host.A m c Cert.KernelIdeal.main_arg3 := e3
  have h4 : Idealize.ShloMosaic.StableHlo.launchContents m' c (Proc.devRef .tc Cert.ReferenceIdeal.main_arg4) = Cert.KernelIdeal.Host.A m c Cert.KernelIdeal.main_arg4 := e4
  have h5 : Idealize.ShloMosaic.StableHlo.launchContents m' c (Proc.devRef .tc Cert.ReferenceIdeal.main_arg5) = Cert.KernelIdeal.Host.A m c Cert.KernelIdeal.main_arg5 := e5
  have h6 : Idealize.ShloMosaic.StableHlo.launchContents m' c (Proc.devRef .tc Cert.ReferenceIdeal.main_arg6) = Cert.KernelIdeal.Host.A m c Cert.KernelIdeal.main_arg6 := e6
  have h7 : Idealize.ShloMosaic.StableHlo.launchContents m' c (Proc.devRef .tc Cert.ReferenceIdeal.main_arg7) = Cert.KernelIdeal.Host.A m c Cert.KernelIdeal.main_arg7 := e7
  have h8 : Idealize.ShloMosaic.StableHlo.launchContents m' c (Proc.devRef .tc Cert.ReferenceIdeal.main_arg8) = Cert.KernelIdeal.Host.A m c Cert.KernelIdeal.main_arg8 := e8
  have h9 : Idealize.ShloMosaic.StableHlo.launchContents m' c (Proc.devRef .tc Cert.ReferenceIdeal.main_arg9) = Cert.KernelIdeal.Host.A m c Cert.KernelIdeal.main_arg9 := e9
  have h10 : Idealize.ShloMosaic.StableHlo.launchContents m' c (Proc.devRef .tc Cert.ReferenceIdeal.main_arg10) = Cert.KernelIdeal.Host.A m c Cert.KernelIdeal.main_arg10 := e10
  have h11 : Idealize.ShloMosaic.StableHlo.launchContents m' c (Proc.devRef .tc Cert.ReferenceIdeal.main_arg11) = Cert.KernelIdeal.Host.A m c Cert.KernelIdeal.main_arg11 := e11
  have h12 : Idealize.ShloMosaic.StableHlo.launchContents m' c (Proc.devRef .tc Cert.ReferenceIdeal.main_arg12) = Cert.KernelIdeal.Host.A m c Cert.KernelIdeal.main_arg12 := e12
  have h13 : Idealize.ShloMosaic.StableHlo.launchContents m' c (Proc.devRef .tc Cert.ReferenceIdeal.main_arg13) = Cert.KernelIdeal.Host.A m c Cert.KernelIdeal.main_arg13 := e13
  have h14 : Idealize.ShloMosaic.StableHlo.launchContents m' c (Proc.devRef .tc Cert.ReferenceIdeal.main_arg14) = Cert.KernelIdeal.Host.A m c Cert.KernelIdeal.main_arg14 := e14
  have h15 : Idealize.ShloMosaic.StableHlo.launchContents m' c (Proc.devRef .tc Cert.ReferenceIdeal.main_arg15) = Cert.KernelIdeal.Host.A m c Cert.KernelIdeal.main_arg15 := e15
  have h16 : Idealize.ShloMosaic.StableHlo.launchContents m' c (Proc.devRef .tc Cert.ReferenceIdeal.main_arg16) = Cert.KernelIdeal.Host.A m c Cert.KernelIdeal.main_arg16 := e16
  rw [h0, h1, h2, h3, h4, h5, h6, h7, h8, h9, h10, h11, h12, h13, h14, h15, h16]
  exact (Cert.KernelIdeal.Att.res_ref m c f2 f3 f4 f5 f10 f11).symm

theorem claim : Cert.Claim := ⟨Cert.Kernel.Gen.facts, Cert.KernelIdeal.Gen.facts, Cert.ReferenceIdeal.Gen.facts, Cert.Pre_finite.Gen.facts,
  fun m g _ => (θ_run _ _ _).mono (fun _ h => h.1) (Cert.Kernel.Att.final m g),
  fun m g _ => (θ_run _ _ _).mono (fun _ h => h.1) (Cert.KernelIdeal.Att.final m g),
  fun m g _ => (θ_run _ _ _).mono (fun _ h => h.1) (Cert.KernelIdeal.Att.final m g),
  ref_frame, fun m g _ => ref_frame m g trivial, preserves, algebraic⟩

end Cert.Proof

end
